-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S2x2048x2048 : Shape := ⟨3, ![2, 2048, 2048]⟩
abbrev S2048x2048 : Shape := ⟨2, ![2048, 2048]⟩
abbrev S2048 : Shape := ⟨1, ![2048]⟩
abbrev S16x2048 : Shape := ⟨2, ![16, 2048]⟩
abbrev S16 : Shape := ⟨1, ![16]⟩
abbrev S_ : Shape := ⟨0, ![]⟩

class Facts : Prop where
  bcast_S_S2x2048x2048 : S_.BroadcastsInDim S2x2048x2048 (![] : Fin 0 → Fin S2x2048x2048.rank)
  bcast_S_S2048x2048 : S_.BroadcastsInDim S2048x2048 (![] : Fin 0 → Fin S2048x2048.rank)
  bcast_S_S2048 : S_.BroadcastsInDim S2048 (![] : Fin 0 → Fin S2048.rank)
  bcast_S_S16x2048 : S_.BroadcastsInDim S16x2048 (![] : Fin 0 → Fin S16x2048.rank)

variable [Facts]

def fn_part1 {F : FTy → Type} [FloatOps F] (main_arg6 : FVec F S2048 .f32) (main_arg7 : FVec F S16x2048 .f32) (main_v2 : IVec S2x2048x2048 1) (main_v5 : IVec S2048x2048 1) (main_v8 : IVec S2048 1) (main_v11 : IVec S2048x2048 1) (main_v14 : IVec S2048 1) (main_v17 : IVec S2048x2048 1) : IVec S2x2048x2048 1 × IVec S2048x2048 1 × IVec S2048 1 × IVec S2048x2048 1 × IVec S2048 1 × IVec S2048x2048 1 × IVec S2048 1 × IVec S16x2048 1 :=
  let main_v18 : FVec F S2048 .f32 := Host.absf main_arg6
  let main_cst_5 : FVec F S_ .f32 := constant S_ .f32 0x7F800000#32
  let main_v19 : FVec F S2048 .f32 := broadcastInDim S2048 ![] bcast_S_S2048 main_cst_5
  let main_v20 : IVec S2048 1 := cmpf .olt main_v18 main_v19
  let main_v21 : FVec F S16x2048 .f32 := Host.absf main_arg7
  let main_cst_6 : FVec F S_ .f32 := constant S_ .f32 0x7F800000#32
  let main_v22 : FVec F S16x2048 .f32 := broadcastInDim S16x2048 ![] bcast_S_S16x2048 main_cst_6
  let main_v23 : IVec S16x2048 1 := cmpf .olt main_v21 main_v22
  (main_v2, main_v5, main_v8, main_v11, main_v14, main_v17, main_v20, main_v23)

def fn {F : FTy → Type} [FloatOps F] (main_arg0 : FVec F S2x2048x2048 .f32) (main_arg1 : FVec F S2048x2048 .f32) (main_arg2 : FVec F S2048 .f32) (main_arg3 : FVec F S2048x2048 .f32) (main_arg4 : FVec F S2048 .f32) (main_arg5 : FVec F S2048x2048 .f32) (main_arg6 : FVec F S2048 .f32) (main_arg7 : FVec F S16x2048 .f32) (main_arg8 : FVec F S16 .f32) : IVec S2x2048x2048 1 × IVec S2048x2048 1 × IVec S2048 1 × IVec S2048x2048 1 × IVec S2048 1 × IVec S2048x2048 1 × IVec S2048 1 × IVec S16x2048 1 :=
  let main_v0 : FVec F S2x2048x2048 .f32 := Host.absf main_arg0
  let main_cst : FVec F S_ .f32 := constant S_ .f32 0x7F800000#32
  let main_v1 : FVec F S2x2048x2048 .f32 := broadcastInDim S2x2048x2048 ![] bcast_S_S2x2048x2048 main_cst
  let main_v2 : IVec S2x2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x2048 .f32 := Host.absf main_arg3
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_v12 : FVec F S2048 .f32 := Host.absf main_arg4
  let main_cst_3 : FVec F S_ .f32 := constant S_ .f32 0x7F800000#32
  let main_v13 : FVec F S2048 .f32 := broadcastInDim S2048 ![] bcast_S_S2048 main_cst_3
  let main_v14 : IVec S2048 1 := cmpf .olt main_v12 main_v13
  let main_v15 : FVec F S2048x2048 .f32 := Host.absf main_arg5
  let main_cst_4 : FVec F S_ .f32 := constant S_ .f32 0x7F800000#32
  let main_v16 : FVec F S2048x2048 .f32 := broadcastInDim S2048x2048 ![] bcast_S_S2048x2048 main_cst_4
  let main_v17 : IVec S2048x2048 1 := cmpf .olt main_v15 main_v16
  fn_part1 (F := F) main_arg6 main_arg7 main_v2 main_v5 main_v8 main_v11 main_v14 main_v17
-- ==== Kernel.lean ====
abbrev S2x2048x2048 : Shape := ⟨3, ![2, 2048, 2048]⟩
abbrev S2048x2048 : Shape := ⟨2, ![2048, 2048]⟩
abbrev S2048 : Shape := ⟨1, ![2048]⟩
abbrev S16x2048 : Shape := ⟨2, ![16, 2048]⟩
abbrev S16 : Shape := ⟨1, ![16]⟩
abbrev S4096x2048 : Shape := ⟨2, ![4096, 2048]⟩
abbrev S1x2048 : Shape := ⟨2, ![1, 2048]⟩
abbrev S512x2048 : Shape := ⟨2, ![512, 2048]⟩
abbrev S2x128x16x2048 : Shape := ⟨4, ![2, 128, 16, 2048]⟩
abbrev S2x2048x16 : Shape := ⟨3, ![2, 2048, 16]⟩
abbrev S2x16x2048 : Shape := ⟨3, ![2, 16, 2048]⟩
abbrev S1x128x16x128 : Shape := ⟨4, ![1, 128, 16, 128]⟩
abbrev S1x128x16 : Shape := ⟨3, ![1, 128, 16]⟩
abbrev S1x16x128 : Shape := ⟨3, ![1, 16, 128]⟩
abbrev S128x16x128 : Shape := ⟨3, ![128, 16, 128]⟩
abbrev S128x16 : Shape := ⟨2, ![128, 16]⟩
abbrev S16x128 : Shape := ⟨2, ![16, 128]⟩
abbrev S128x1x128 : Shape := ⟨3, ![128, 1, 128]⟩
abbrev S128x128 : Shape := ⟨2, ![128, 128]⟩
abbrev S1x16 : Shape := ⟨2, ![1, 16]⟩
abbrev S1x1024x16 : Shape := ⟨3, ![1, 1024, 16]⟩
abbrev S1x16x2048 : Shape := ⟨3, ![1, 16, 2048]⟩
abbrev S1x2048x128 : Shape := ⟨3, ![1, 2048, 128]⟩
abbrev S1x1024x128 : Shape := ⟨3, ![1, 1024, 128]⟩
abbrev S1x1x16 : Shape := ⟨3, ![1, 1, 16]⟩
abbrev S1 : Shape := ⟨1, ![1]⟩
abbrev S1x1x1 : Shape := ⟨3, ![1, 1, 1]⟩
abbrev S1024x16 : Shape := ⟨2, ![1024, 16]⟩
abbrev S1024 : Shape := ⟨1, ![1024]⟩
abbrev S1024x1 : Shape := ⟨2, ![1024, 1]⟩
abbrev S16x1 : Shape := ⟨2, ![16, 1]⟩
abbrev S1024x2048 : Shape := ⟨2, ![1024, 2048]⟩
abbrev S2048x128 : Shape := ⟨2, ![2048, 128]⟩
abbrev S1024x128 : Shape := ⟨2, ![1024, 128]⟩

abbrev nBuf : Space → Nat
  | .hbm => 26
  | .vmem => 32
  | .smem => 0
  | _ => 0

abbrev bufTy : (tb : Table) → Fin (tcTables nBuf tb) → BufTy
  | .hbm, ⟨0, _⟩ => ⟨S2x2048x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S16x2048, .f32⟩
  | .hbm, ⟨8, _⟩ => ⟨S16, .f32⟩
  | .hbm, ⟨9, _⟩ => ⟨S4096x2048, .f32⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S2x128x16x2048, .f32⟩
  | .hbm, ⟨20, _⟩ => ⟨S2x128x16x2048, .f32⟩
  | .hbm, ⟨21, _⟩ => ⟨S2x2048x16, .f32⟩
  | .hbm, ⟨22, _⟩ => ⟨S2x16x2048, .f32⟩
  | .hbm, ⟨23, _⟩ => ⟨S1x16, .f32⟩
  | .hbm, ⟨24, _⟩ => ⟨S2x2048x2048, .f32⟩
  | .hbm, ⟨25, _⟩ => ⟨S2x2048x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S2048x2048, .bf16⟩
  | .local _ .vmem, ⟨4, _⟩ => ⟨S2048x2048, .bf16⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | .local _ .vmem, ⟨14, _⟩ => ⟨S1x128x16x128, .f32⟩
  | .local _ .vmem, ⟨15, _⟩ => ⟨S1x128x16x128, .f32⟩
  | .local _ .vmem, ⟨16, _⟩ => ⟨S1x128x16x128, .f32⟩
  | .local _ .vmem, ⟨17, _⟩ => ⟨S1x128x16x128, .f32⟩
  | .local _ .vmem, ⟨18, _⟩ => ⟨S16x2048, .f32⟩
  | .local _ .vmem, ⟨19, _⟩ => ⟨S1x128x16, .f32⟩
  | .local _ .vmem, ⟨20, _⟩ => ⟨S1x128x16, .f32⟩
  | .local _ .vmem, ⟨21, _⟩ => ⟨S1x16x128, .f32⟩
  | .local _ .vmem, ⟨22, _⟩ => ⟨S1x16x128, .f32⟩
  | .local _ .vmem, ⟨23, _⟩ => ⟨S1x1024x16, .f32⟩
  | .local _ .vmem, ⟨24, _⟩ => ⟨S1x1024x16, .f32⟩
  | .local _ .vmem, ⟨25, _⟩ => ⟨S1x16x2048, .f32⟩
  | .local _ .vmem, ⟨26, _⟩ => ⟨S1x16x2048, .f32⟩
  | .local _ .vmem, ⟨27, _⟩ => ⟨S1x2048x128, .f32⟩
  | .local _ .vmem, ⟨28, _⟩ => ⟨S1x2048x128, .f32⟩
  | .local _ .vmem, ⟨29, _⟩ => ⟨S1x16, .f32⟩
  | .local _ .vmem, ⟨30, _⟩ => ⟨S1x1024x128, .f32⟩
  | .local _ .vmem, ⟨31, _⟩ => ⟨S1x1024x128, .f32⟩
  | _, _ => ⟨S2x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg4_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem3_1 : DmaSem sig := 20
abbrev cc1_sem4_0 : DmaSem sig := 21
abbrev cc1_sem4_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem2_1 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x128x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S16x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x128x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x16x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨3, ![2, 16, 2], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage2_0 : Fin 2 → Memref sig .tc .vmem S1x1024x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1x16x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, false]

abbrev stage2_2 : Fin 2 → Memref sig .tc .vmem S1x2048x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 1 → Memref sig .tc .vmem S1x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 2 → Memref sig .tc .vmem S1x1024x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, true]
-- ==== ReferenceIdeal.lean ====
abbrev S2x2048x2048 : Shape := ⟨3, ![2, 2048, 2048]⟩
abbrev S2048x2048 : Shape := ⟨2, ![2048, 2048]⟩
abbrev S2048 : Shape := ⟨1, ![2048]⟩
abbrev S16x2048 : Shape := ⟨2, ![16, 2048]⟩
abbrev S16 : Shape := ⟨1, ![16]⟩
abbrev S1x1x2048 : Shape := ⟨3, ![1, 1, 2048]⟩
abbrev S2x2048x16x128 : Shape := ⟨4, ![2, 2048, 16, 128]⟩
abbrev S2x16x2048x128 : Shape := ⟨4, ![2, 16, 2048, 128]⟩
abbrev S2048x16 : Shape := ⟨2, ![2048, 16]⟩
abbrev S2x2048x16 : Shape := ⟨3, ![2, 2048, 16]⟩
abbrev S2x4096x16 : Shape := ⟨3, ![2, 4096, 16]⟩
abbrev S2x4096x16x1 : Shape := ⟨4, ![2, 4096, 16, 1]⟩
abbrev S2x16x4096x1 : Shape := ⟨4, ![2, 16, 4096, 1]⟩
abbrev S2x16x4096 : Shape := ⟨3, ![2, 16, 4096]⟩
abbrev S_ : Shape := ⟨0, ![]⟩
abbrev S1 : Shape := ⟨1, ![1]⟩
abbrev S1x1x1x1 : Shape := ⟨4, ![1, 1, 1, 1]⟩
abbrev S2x16x4096x128 : Shape := ⟨4, ![2, 16, 4096, 128]⟩
abbrev S2x16x4096x128x1 : Shape := ⟨5, ![2, 16, 4096, 128, 1]⟩
abbrev S1x1x1x1x1 : Shape := ⟨5, ![1, 1, 1, 1, 1]⟩
abbrev S32x4096x128 : Shape := ⟨3, ![32, 4096, 128]⟩
abbrev S32x4096 : Shape := ⟨2, ![32, 4096]⟩
abbrev S1x16 : Shape := ⟨2, ![1, 16]⟩
abbrev S2x16 : Shape := ⟨2, ![2, 16]⟩
abbrev S32 : Shape := ⟨1, ![32]⟩
abbrev S32x1 : Shape := ⟨2, ![32, 1]⟩
abbrev S32x4096x1 : Shape := ⟨3, ![32, 4096, 1]⟩
abbrev S32x1x128 : Shape := ⟨3, ![32, 1, 128]⟩
abbrev S32x4097x128 : Shape := ⟨3, ![32, 4097, 128]⟩
abbrev S32x1x4096 : Shape := ⟨3, ![32, 1, 4096]⟩
abbrev S32x4096x4096 : Shape := ⟨3, ![32, 4096, 4096]⟩
abbrev S32x4096x128x1 : Shape := ⟨4, ![32, 4096, 128, 1]⟩
abbrev S32x1x1 : Shape := ⟨3, ![32, 1, 1]⟩

abbrev nBuf : Space → Nat
  | .hbm => 310
  | .vmem => 0
  | .smem => 0
  | _ => 0

abbrev hbmTy0_0 (i : Nat) : BufTy := match i % 128 with
  | 0 => ⟨S2x2048x2048, .f32⟩
  | 1 => ⟨S2048x2048, .f32⟩
  | 2 => ⟨S2048, .f32⟩
  | 3 => ⟨S2048x2048, .f32⟩
  | 4 => ⟨S2048, .f32⟩
  | 5 => ⟨S2048x2048, .f32⟩
  | 6 => ⟨S2048, .f32⟩
  | 7 => ⟨S16x2048, .f32⟩
  | 8 => ⟨S16, .f32⟩
  | 9 => ⟨S2048x2048, .f32⟩
  | 10 => ⟨S2x2048x2048, .f32⟩
  | 11 => ⟨S1x1x2048, .f32⟩
  | 12 => ⟨S2x2048x2048, .f32⟩
  | 13 => ⟨S2x2048x2048, .f32⟩
  | 14 => ⟨S2x2048x16x128, .f32⟩
  | 15 => ⟨S2x16x2048x128, .f32⟩
  | 16 => ⟨S2048x2048, .f32⟩
  | 17 => ⟨S2x2048x2048, .f32⟩
  | 18 => ⟨S1x1x2048, .f32⟩
  | 19 => ⟨S2x2048x2048, .f32⟩
  | 20 => ⟨S2x2048x2048, .f32⟩
  | 21 => ⟨S2x2048x16x128, .f32⟩
  | 22 => ⟨S2x16x2048x128, .f32⟩
  | 23 => ⟨S2048x2048, .f32⟩
  | 24 => ⟨S2x2048x2048, .f32⟩
  | 25 => ⟨S1x1x2048, .f32⟩
  | 26 => ⟨S2x2048x2048, .f32⟩
  | 27 => ⟨S2x2048x2048, .f32⟩
  | 28 => ⟨S2x2048x16x128, .f32⟩
  | 29 => ⟨S2x16x2048x128, .f32⟩
  | 30 => ⟨S2x2048x2048, .f32⟩
  | 31 => ⟨S2048x16, .f32⟩
  | 32 => ⟨S2x2048x16, .f32⟩
  | 33 => ⟨S2x2048x2048, .f32⟩
  | 34 => ⟨S2048x16, .f32⟩
  | 35 => ⟨S2x2048x16, .f32⟩
  | 36 => ⟨S2x4096x16, .f32⟩
  | 37 => ⟨S2x4096x16x1, .f32⟩
  | 38 => ⟨S2x16x4096x1, .f32⟩
  | 39 => ⟨S2x16x4096, .f32⟩
  | 40 => ⟨S2x16x4096, .i32⟩
  | 41 => ⟨S2x16x4096, .f32⟩
  | 42 => ⟨S2x16x4096, .i32⟩
  | 43 => ⟨S_, .i32⟩
  | 44 => ⟨S2x16x4096, .i32⟩
  | 45 => ⟨S2x16x4096, .i1⟩
  | 46 => ⟨S_, .i32⟩
  | 47 => ⟨S2x16x4096, .i32⟩
  | 48 => ⟨S2x16x4096, .i32⟩
  | 49 => ⟨S2x16x4096, .i32⟩
  | 50 => ⟨S2x16x4096x1, .i32⟩
  | 51 => ⟨S1, .i32⟩
  | 52 => ⟨S_, .i32⟩
  | 53 => ⟨S2x16x4096x1, .i32⟩
  | 54 => ⟨S2x16x4096x1, .i1⟩
  | 55 => ⟨S1x1x1x1, .i32⟩
  | 56 => ⟨S2x16x4096x1, .i32⟩
  | 57 => ⟨S2x16x4096x1, .i1⟩
  | 58 => ⟨S2x16x4096x1, .i1⟩
  | 59 => ⟨S_, .i1⟩
  | 60 => ⟨S2x16x4096, .i1⟩
  | 61 => ⟨S2x16x4096, .f32⟩
  | 62 => ⟨S_, .f32⟩
  | 63 => ⟨S2x16x4096, .f32⟩
  | 64 => ⟨S2x16x4096, .f32⟩
  | 65 => ⟨S2x16x4096, .i32⟩
  | 66 => ⟨S2x16x4096, .i32⟩
  | 67 => ⟨S2x16x4096, .i32⟩
  | 68 => ⟨S_, .f32⟩
  | 69 => ⟨S2x16x2048x128, .f32⟩
  | 70 => ⟨S2x16x4096x128, .f32⟩
  | 71 => ⟨S2x16x4096x1, .i32⟩
  | 72 => ⟨S2x16x4096x128, .i32⟩
  | 73 => ⟨S_, .i32⟩
  | 74 => ⟨S2x16x4096x128, .i32⟩
  | 75 => ⟨S2x16x4096x128, .i1⟩
  | 76 => ⟨S_, .i32⟩
  | 77 => ⟨S2x16x4096x128, .i32⟩
  | 78 => ⟨S2x16x4096x128, .i32⟩
  | 79 => ⟨S2x16x4096x128, .i32⟩
  | 80 => ⟨S2x16x4096x128x1, .i32⟩
  | 81 => ⟨S1, .i32⟩
  | 82 => ⟨S_, .i32⟩
  | 83 => ⟨S2x16x4096x128x1, .i32⟩
  | 84 => ⟨S2x16x4096x128x1, .i1⟩
  | 85 => ⟨S1x1x1x1x1, .i32⟩
  | 86 => ⟨S2x16x4096x128x1, .i32⟩
  | 87 => ⟨S2x16x4096x128x1, .i1⟩
  | 88 => ⟨S2x16x4096x128x1, .i1⟩
  | 89 => ⟨S_, .i1⟩
  | 90 => ⟨S2x16x4096x128, .i1⟩
  | 91 => ⟨S2x16x4096x128, .f32⟩
  | 92 => ⟨S_, .f32⟩
  | 93 => ⟨S2x16x4096x128, .f32⟩
  | 94 => ⟨S2x16x4096x128, .f32⟩
  | 95 => ⟨S32x4096x128, .f32⟩
  | 96 => ⟨S32x4096, .f32⟩
  | 97 => ⟨S1x16, .f32⟩
  | 98 => ⟨S2x16, .f32⟩
  | 99 => ⟨S32, .f32⟩
  | 100 => ⟨S_, .f32⟩
  | 101 => ⟨S32, .f32⟩
  | 102 => ⟨S32, .f32⟩
  | 103 => ⟨S32, .f32⟩
  | 104 => ⟨S32, .f32⟩
  | 105 => ⟨S32, .i1⟩
  | 106 => ⟨S32, .f32⟩
  | 107 => ⟨S32, .f32⟩
  | 108 => ⟨S32, .f32⟩
  | 109 => ⟨S32, .f32⟩
  | 110 => ⟨S32, .f32⟩
  | 111 => ⟨S32, .f32⟩
  | 112 => ⟨S32, .f32⟩
  | 113 => ⟨S32, .f32⟩
  | 114 => ⟨S_, .f32⟩
  | 115 => ⟨S32, .f32⟩
  | 116 => ⟨S32, .f32⟩
  | 117 => ⟨S32x1, .f32⟩
  | 118 => ⟨S_, .f32⟩
  | 119 => ⟨S_, .f32⟩
  | 120 => ⟨S32x4096x128, .f32⟩
  | 121 => ⟨S32x4096x1, .f32⟩
  | 122 => ⟨S32x4096x128, .f32⟩
  | 123 => ⟨S32x4096x128, .f32⟩
  | 124 => ⟨S_, .f32⟩
  | 125 => ⟨S_, .f32⟩
  | 126 => ⟨S32x4096x128, .f32⟩
  | 127 => ⟨S_, .f32⟩
  | _ => ⟨S2x2048x2048, .f32⟩

abbrev hbmTy0_1 (i : Nat) : BufTy := match i % 128 with
  | 0 => ⟨S32x1x128, .f32⟩
  | 1 => ⟨S32x4097x128, .f32⟩
  | 2 => ⟨S32x4097x128, .f32⟩
  | 3 => ⟨S32x4096, .f32⟩
  | 4 => ⟨S32x4096, .f32⟩
  | 5 => ⟨S32x4096, .f32⟩
  | 6 => ⟨S32x4096, .f32⟩
  | 7 => ⟨S32x1x4096, .f32⟩
  | 8 => ⟨S32x4096x1, .f32⟩
  | 9 => ⟨S32x4096x4096, .f32⟩
  | 10 => ⟨S32x4096x4096, .f32⟩
  | 11 => ⟨S32x4096x4096, .i1⟩
  | 12 => ⟨S32x4096x4096, .i32⟩
  | 13 => ⟨S_, .i32⟩
  | 14 => ⟨S32x4096, .i32⟩
  | 15 => ⟨S32x1x4096, .f32⟩
  | 16 => ⟨S32x4096x1, .f32⟩
  | 17 => ⟨S32x4096x4096, .f32⟩
  | 18 => ⟨S32x4096x4096, .f32⟩
  | 19 => ⟨S32x4096x4096, .i1⟩
  | 20 => ⟨S32x4096x4096, .i32⟩
  | 21 => ⟨S_, .i32⟩
  | 22 => ⟨S32x4096, .i32⟩
  | 23 => ⟨S32x4096x128, .f32⟩
  | 24 => ⟨S32x4096x128, .f32⟩
  | 25 => ⟨S32x4096x1, .i32⟩
  | 26 => ⟨S32x4096x128, .i32⟩
  | 27 => ⟨S_, .i32⟩
  | 28 => ⟨S32x4096x128, .i32⟩
  | 29 => ⟨S32x4096x128, .i1⟩
  | 30 => ⟨S_, .i32⟩
  | 31 => ⟨S32x4096x128, .i32⟩
  | 32 => ⟨S32x4096x128, .i32⟩
  | 33 => ⟨S32x4096x128, .i32⟩
  | 34 => ⟨S32x4096x128x1, .i32⟩
  | 35 => ⟨S1, .i32⟩
  | 36 => ⟨S_, .i32⟩
  | 37 => ⟨S32x4096x128x1, .i32⟩
  | 38 => ⟨S32x4096x128x1, .i1⟩
  | 39 => ⟨S1x1x1x1, .i32⟩
  | 40 => ⟨S32x4096x128x1, .i32⟩
  | 41 => ⟨S32x4096x128x1, .i1⟩
  | 42 => ⟨S32x4096x128x1, .i1⟩
  | 43 => ⟨S_, .i1⟩
  | 44 => ⟨S32x4096x128, .i1⟩
  | 45 => ⟨S32x4096x128, .f32⟩
  | 46 => ⟨S_, .f32⟩
  | 47 => ⟨S32x4096x128, .f32⟩
  | 48 => ⟨S32x4096x128, .f32⟩
  | 49 => ⟨S32x4096x1, .i32⟩
  | 50 => ⟨S32x4096x128, .i32⟩
  | 51 => ⟨S_, .i32⟩
  | 52 => ⟨S32x4096x128, .i32⟩
  | 53 => ⟨S32x4096x128, .i1⟩
  | 54 => ⟨S_, .i32⟩
  | 55 => ⟨S32x4096x128, .i32⟩
  | 56 => ⟨S32x4096x128, .i32⟩
  | 57 => ⟨S32x4096x128, .i32⟩
  | 58 => ⟨S32x4096x128x1, .i32⟩
  | 59 => ⟨S1, .i32⟩
  | 60 => ⟨S_, .i32⟩
  | 61 => ⟨S32x4096x128x1, .i32⟩
  | 62 => ⟨S32x4096x128x1, .i1⟩
  | 63 => ⟨S1x1x1x1, .i32⟩
  | 64 => ⟨S32x4096x128x1, .i32⟩
  | 65 => ⟨S32x4096x128x1, .i1⟩
  | 66 => ⟨S32x4096x128x1, .i1⟩
  | 67 => ⟨S_, .i1⟩
  | 68 => ⟨S32x4096x128, .i1⟩
  | 69 => ⟨S32x4096x128, .f32⟩
  | 70 => ⟨S_, .f32⟩
  | 71 => ⟨S32x4096x128, .f32⟩
  | 72 => ⟨S32x4096x128, .f32⟩
  | 73 => ⟨S32x4096x1, .i32⟩
  | 74 => ⟨S32x4096x128, .i32⟩
  | 75 => ⟨S_, .i32⟩
  | 76 => ⟨S32x4096x128, .i32⟩
  | 77 => ⟨S32x4096x128, .i1⟩
  | 78 => ⟨S_, .i32⟩
  | 79 => ⟨S32x4096x128, .i32⟩
  | 80 => ⟨S32x4096x128, .i32⟩
  | 81 => ⟨S32x4096x128, .i32⟩
  | 82 => ⟨S32x4096x128x1, .i32⟩
  | 83 => ⟨S1, .i32⟩
  | 84 => ⟨S_, .i32⟩
  | 85 => ⟨S32x4096x128x1, .i32⟩
  | 86 => ⟨S32x4096x128x1, .i1⟩
  | 87 => ⟨S1x1x1x1, .i32⟩
  | 88 => ⟨S32x4096x128x1, .i32⟩
  | 89 => ⟨S32x4096x128x1, .i1⟩
  | 90 => ⟨S32x4096x128x1, .i1⟩
  | 91 => ⟨S_, .i1⟩
  | 92 => ⟨S32x4096x128, .i1⟩
  | 93 => ⟨S32x4096x128, .f32⟩
  | 94 => ⟨S_, .f32⟩
  | 95 => ⟨S32x4096x128, .f32⟩
  | 96 => ⟨S32x4096x128, .f32⟩
  | 97 => ⟨S32x4096x1, .i32⟩
  | 98 => ⟨S32x4096x128, .i32⟩
  | 99 => ⟨S_, .i32⟩
  | 100 => ⟨S32x4096x128, .i32⟩
  | 101 => ⟨S32x4096x128, .i1⟩
  | 102 => ⟨S_, .i32⟩
  | 103 => ⟨S32x4096x128, .i32⟩
  | 104 => ⟨S32x4096x128, .i32⟩
  | 105 => ⟨S32x4096x128, .i32⟩
  | 106 => ⟨S32x4096x128x1, .i32⟩
  | 107 => ⟨S1, .i32⟩
  | 108 => ⟨S_, .i32⟩
  | 109 => ⟨S32x4096x128x1, .i32⟩
  | 110 => ⟨S32x4096x128x1, .i1⟩
  | 111 => ⟨S1x1x1x1, .i32⟩
  | 112 => ⟨S32x4096x128x1, .i32⟩
  | 113 => ⟨S32x4096x128x1, .i1⟩
  | 114 => ⟨S32x4096x128x1, .i1⟩
  | 115 => ⟨S_, .i1⟩
  | 116 => ⟨S32x4096x128, .i1⟩
  | 117 => ⟨S32x4096x128, .f32⟩
  | 118 => ⟨S_, .f32⟩
  | 119 => ⟨S32x4096x128, .f32⟩
  | 120 => ⟨S32x4096x128, .f32⟩
  | 121 => ⟨S32x4096x128, .f32⟩
  | 122 => ⟨S32x4096x128, .f32⟩
  | 123 => ⟨S32x4096x128, .f32⟩
  | 124 => ⟨S32x4096x128, .f32⟩
  | 125 => ⟨S_, .f32⟩
  | 126 => ⟨S32x1, .f32⟩
  | 127 => ⟨S32x1, .f32⟩
  | _ => ⟨S2x2048x2048, .f32⟩

abbrev hbmTy0_2 (i : Nat) : BufTy := match i % 128 with
  | 0 => ⟨S32x1x1, .f32⟩
  | 1 => ⟨S32x4096, .f32⟩
  | 2 => ⟨S32x4096, .f32⟩
  | 3 => ⟨S32x4096x1, .f32⟩
  | 4 => ⟨S_, .f32⟩
  | 5 => ⟨S32x4096x1, .f32⟩
  | 6 => ⟨S32x4096x1, .f32⟩
  | 7 => ⟨S32x4096x128, .f32⟩
  | 8 => ⟨S32x4096x128, .f32⟩
  | 9 => ⟨S32x4096x128, .f32⟩
  | 10 => ⟨S32x4096x128, .f32⟩
  | 11 => ⟨S32x4096x128, .f32⟩
  | 12 => ⟨S_, .f32⟩
  | 13 => ⟨S32x4096x1, .f32⟩
  | 14 => ⟨S32x4096x1, .f32⟩
  | 15 => ⟨S32x4096x128, .f32⟩
  | 16 => ⟨S32x4096x128, .f32⟩
  | 17 => ⟨S32x4096x128, .f32⟩
  | 18 => ⟨S32x4096x128, .f32⟩
  | 19 => ⟨S32x4096x128, .f32⟩
  | 20 => ⟨S32x4096x128, .f32⟩
  | 21 => ⟨S2x16x4096x128, .f32⟩
  | 22 => ⟨S2x16x4096x1, .i32⟩
  | 23 => ⟨S2x16x4096x128, .i32⟩
  | 24 => ⟨S_, .i32⟩
  | 25 => ⟨S2x16x4096x128, .i32⟩
  | 26 => ⟨S2x16x4096x128, .i1⟩
  | 27 => ⟨S_, .i32⟩
  | 28 => ⟨S2x16x4096x128, .i32⟩
  | 29 => ⟨S2x16x4096x128, .i32⟩
  | 30 => ⟨S2x16x4096x128, .i32⟩
  | 31 => ⟨S2x16x4096x128x1, .i32⟩
  | 32 => ⟨S1, .i32⟩
  | 33 => ⟨S_, .i32⟩
  | 34 => ⟨S2x16x4096x128x1, .i32⟩
  | 35 => ⟨S2x16x4096x128x1, .i1⟩
  | 36 => ⟨S1x1x1x1x1, .i32⟩
  | 37 => ⟨S2x16x4096x128x1, .i32⟩
  | 38 => ⟨S2x16x4096x128x1, .i1⟩
  | 39 => ⟨S2x16x4096x128x1, .i1⟩
  | 40 => ⟨S_, .i1⟩
  | 41 => ⟨S2x16x4096x128, .i1⟩
  | 42 => ⟨S2x16x4096x128, .f32⟩
  | 43 => ⟨S_, .f32⟩
  | 44 => ⟨S2x16x4096x128, .f32⟩
  | 45 => ⟨S2x16x4096x128, .f32⟩
  | 46 => ⟨S2x16x2048x128, .f32⟩
  | 47 => ⟨S_, .f32⟩
  | 48 => ⟨S_, .f32⟩
  | 49 => ⟨S_, .f32⟩
  | 50 => ⟨S2x16x2048x128, .f32⟩
  | 51 => ⟨S2x16x2048x128, .f32⟩
  | 52 => ⟨S2x2048x16x128, .f32⟩
  | 53 => ⟨S2x2048x2048, .f32⟩
  | _ => ⟨S2x2048x2048, .f32⟩

abbrev hbmTy (i : Nat) : BufTy := match i / 128 with
  | 0 => hbmTy0_0 i
  | 1 => hbmTy0_1 i
  | 2 => hbmTy0_2 i
  | _ => ⟨S2x2048x2048, .f32⟩

abbrev bufTy : (tb : Table) → Fin (tcTables nBuf tb) → BufTy
  | .hbm, ⟨i, _⟩ => hbmTy i
  | _, _ => ⟨S2x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_call0_v0 : Ref sig .tc := ⟨.hbm, 40, rfl⟩
abbrev main_call0_v1_0 : Ref sig .tc := ⟨.hbm, 41, rfl⟩
abbrev main_v31 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_cst : Ref sig .tc := ⟨.hbm, 62, rfl⟩
abbrev main_call1_v14 : Ref sig .tc := ⟨.hbm, 63, rfl⟩
abbrev main_v32 : Ref sig .tc := ⟨.hbm, 64, rfl⟩
abbrev main_call2_v0 : Ref sig .tc := ⟨.hbm, 65, rfl⟩
abbrev main_call2_v1_0 : Ref sig .tc := ⟨.hbm, 66, rfl⟩
abbrev main_v33 : Ref sig .tc := ⟨.hbm, 67, rfl⟩
abbrev main_cst : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_call3_c : Ref sig .tc := ⟨.hbm, 73, rfl⟩
abbrev main_call3_v0 : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_c_1 : Ref sig .tc := ⟨.hbm, 81, rfl⟩
abbrev main_call3_c_2 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_3 : Ref sig .tc := ⟨.hbm, 89, rfl⟩
abbrev main_call3_v12 : Ref sig .tc := ⟨.hbm, 90, rfl⟩
abbrev main_call3_v13 : Ref sig .tc := ⟨.hbm, 91, rfl⟩
abbrev main_call3_cst : Ref sig .tc := ⟨.hbm, 92, rfl⟩
abbrev main_call3_v14 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_call4_cst : Ref sig .tc := ⟨.hbm, 100, rfl⟩
abbrev main_call4_v0 : Ref sig .tc := ⟨.hbm, 101, rfl⟩
abbrev main_call4_v1 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_v6 : Ref sig .tc := ⟨.hbm, 107, rfl⟩
abbrev main_call4_v7 : Ref sig .tc := ⟨.hbm, 108, rfl⟩
abbrev main_call4_v8 : Ref sig .tc := ⟨.hbm, 109, rfl⟩
abbrev main_call4_v9 : Ref sig .tc := ⟨.hbm, 110, rfl⟩
abbrev main_call4_v10 : Ref sig .tc := ⟨.hbm, 111, rfl⟩
abbrev main_call4_v11 : Ref sig .tc := ⟨.hbm, 112, rfl⟩
abbrev main_v44 : Ref sig .tc := ⟨.hbm, 113, rfl⟩
abbrev main_cst_0 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_call5_call0_cst : Ref sig .tc := ⟨.hbm, 118, rfl⟩
abbrev main_call5_call0_v0 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_call6_call0_cst : Ref sig .tc := ⟨.hbm, 124, rfl⟩
abbrev main_call6_call0_v0 : Ref sig .tc := ⟨.hbm, 125, rfl⟩
abbrev main_v52 : Ref sig .tc := ⟨.hbm, 126, rfl⟩
abbrev main_cst_1 : Ref sig .tc := ⟨.hbm, 127, rfl⟩
abbrev main_v53 : Ref sig .tc := ⟨.hbm, 128, rfl⟩
abbrev main_v54 : Ref sig .tc := ⟨.hbm, 129, rfl⟩
abbrev main_v55 : Ref sig .tc := ⟨.hbm, 130, rfl⟩
abbrev main_v56 : Ref sig .tc := ⟨.hbm, 131, rfl⟩
abbrev main_v57 : Ref sig .tc := ⟨.hbm, 132, rfl⟩
abbrev main_v58 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_c : Ref sig .tc := ⟨.hbm, 141, rfl⟩
abbrev main_v66 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_c_2 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_call7_c : Ref sig .tc := ⟨.hbm, 155, rfl⟩
abbrev main_call7_v0 : Ref sig .tc := ⟨.hbm, 156, rfl⟩
abbrev main_call7_v1 : Ref sig .tc := ⟨.hbm, 157, rfl⟩
abbrev main_call7_c_0 : Ref sig .tc := ⟨.hbm, 158, rfl⟩
abbrev main_call7_v2 : Ref sig .tc := ⟨.hbm, 159, rfl⟩
abbrev main_call7_v3 : Ref sig .tc := ⟨.hbm, 160, rfl⟩
abbrev main_call7_v4 : Ref sig .tc := ⟨.hbm, 161, rfl⟩
abbrev main_call7_v5 : Ref sig .tc := ⟨.hbm, 162, rfl⟩
abbrev main_call7_c_1 : Ref sig .tc := ⟨.hbm, 163, rfl⟩
abbrev main_call7_c_2 : Ref sig .tc := ⟨.hbm, 164, rfl⟩
abbrev main_call7_v6 : Ref sig .tc := ⟨.hbm, 165, rfl⟩
abbrev main_call7_v7 : Ref sig .tc := ⟨.hbm, 166, rfl⟩
abbrev main_call7_v8 : Ref sig .tc := ⟨.hbm, 167, rfl⟩
abbrev main_call7_v9 : Ref sig .tc := ⟨.hbm, 168, rfl⟩
abbrev main_call7_v10 : Ref sig .tc := ⟨.hbm, 169, rfl⟩
abbrev main_call7_v11 : Ref sig .tc := ⟨.hbm, 170, rfl⟩
abbrev main_call7_c_3 : Ref sig .tc := ⟨.hbm, 171, rfl⟩
abbrev main_call7_v12 : Ref sig .tc := ⟨.hbm, 172, rfl⟩
abbrev main_call7_v13 : Ref sig .tc := ⟨.hbm, 173, rfl⟩
abbrev main_call7_cst : Ref sig .tc := ⟨.hbm, 174, rfl⟩
abbrev main_call7_v14 : Ref sig .tc := ⟨.hbm, 175, rfl⟩
abbrev main_v78 : Ref sig .tc := ⟨.hbm, 176, rfl⟩
abbrev main_v79 : Ref sig .tc := ⟨.hbm, 177, rfl⟩
abbrev main_v80 : Ref sig .tc := ⟨.hbm, 178, rfl⟩
abbrev main_call8_c : Ref sig .tc := ⟨.hbm, 179, rfl⟩
abbrev main_call8_v0 : Ref sig .tc := ⟨.hbm, 180, rfl⟩
abbrev main_call8_v1 : Ref sig .tc := ⟨.hbm, 181, rfl⟩
abbrev main_call8_c_0 : Ref sig .tc := ⟨.hbm, 182, rfl⟩
abbrev main_call8_v2 : Ref sig .tc := ⟨.hbm, 183, rfl⟩
abbrev main_call8_v3 : Ref sig .tc := ⟨.hbm, 184, rfl⟩
abbrev main_call8_v4 : Ref sig .tc := ⟨.hbm, 185, rfl⟩
abbrev main_call8_v5 : Ref sig .tc := ⟨.hbm, 186, rfl⟩
abbrev main_call8_c_1 : Ref sig .tc := ⟨.hbm, 187, rfl⟩
abbrev main_call8_c_2 : Ref sig .tc := ⟨.hbm, 188, rfl⟩
abbrev main_call8_v6 : Ref sig .tc := ⟨.hbm, 189, rfl⟩
abbrev main_call8_v7 : Ref sig .tc := ⟨.hbm, 190, rfl⟩
abbrev main_call8_v8 : Ref sig .tc := ⟨.hbm, 191, rfl⟩
abbrev main_call8_v9 : Ref sig .tc := ⟨.hbm, 192, rfl⟩
abbrev main_call8_v10 : Ref sig .tc := ⟨.hbm, 193, rfl⟩
abbrev main_call8_v11 : Ref sig .tc := ⟨.hbm, 194, rfl⟩
abbrev main_call8_c_3 : Ref sig .tc := ⟨.hbm, 195, rfl⟩
abbrev main_call8_v12 : Ref sig .tc := ⟨.hbm, 196, rfl⟩
abbrev main_call8_v13 : Ref sig .tc := ⟨.hbm, 197, rfl⟩
abbrev main_call8_cst : Ref sig .tc := ⟨.hbm, 198, rfl⟩
abbrev main_call8_v14 : Ref sig .tc := ⟨.hbm, 199, rfl⟩
abbrev main_v81 : Ref sig .tc := ⟨.hbm, 200, rfl⟩
abbrev main_v82 : Ref sig .tc := ⟨.hbm, 201, rfl⟩
abbrev main_v83 : Ref sig .tc := ⟨.hbm, 202, rfl⟩
abbrev main_call9_c : Ref sig .tc := ⟨.hbm, 203, rfl⟩
abbrev main_call9_v0 : Ref sig .tc := ⟨.hbm, 204, rfl⟩
abbrev main_call9_v1 : Ref sig .tc := ⟨.hbm, 205, rfl⟩
abbrev main_call9_c_0 : Ref sig .tc := ⟨.hbm, 206, rfl⟩
abbrev main_call9_v2 : Ref sig .tc := ⟨.hbm, 207, rfl⟩
abbrev main_call9_v3 : Ref sig .tc := ⟨.hbm, 208, rfl⟩
abbrev main_call9_v4 : Ref sig .tc := ⟨.hbm, 209, rfl⟩
abbrev main_call9_v5 : Ref sig .tc := ⟨.hbm, 210, rfl⟩
abbrev main_call9_c_1 : Ref sig .tc := ⟨.hbm, 211, rfl⟩
abbrev main_call9_c_2 : Ref sig .tc := ⟨.hbm, 212, rfl⟩
abbrev main_call9_v6 : Ref sig .tc := ⟨.hbm, 213, rfl⟩
abbrev main_call9_v7 : Ref sig .tc := ⟨.hbm, 214, rfl⟩
abbrev main_call9_v8 : Ref sig .tc := ⟨.hbm, 215, rfl⟩
abbrev main_call9_v9 : Ref sig .tc := ⟨.hbm, 216, rfl⟩
abbrev main_call9_v10 : Ref sig .tc := ⟨.hbm, 217, rfl⟩
abbrev main_call9_v11 : Ref sig .tc := ⟨.hbm, 218, rfl⟩
abbrev main_call9_c_3 : Ref sig .tc := ⟨.hbm, 219, rfl⟩
abbrev main_call9_v12 : Ref sig .tc := ⟨.hbm, 220, rfl⟩
abbrev main_call9_v13 : Ref sig .tc := ⟨.hbm, 221, rfl⟩
abbrev main_call9_cst : Ref sig .tc := ⟨.hbm, 222, rfl⟩
abbrev main_call9_v14 : Ref sig .tc := ⟨.hbm, 223, rfl⟩
abbrev main_v84 : Ref sig .tc := ⟨.hbm, 224, rfl⟩
abbrev main_v85 : Ref sig .tc := ⟨.hbm, 225, rfl⟩
abbrev main_v86 : Ref sig .tc := ⟨.hbm, 226, rfl⟩
abbrev main_call10_c : Ref sig .tc := ⟨.hbm, 227, rfl⟩
abbrev main_call10_v0 : Ref sig .tc := ⟨.hbm, 228, rfl⟩
abbrev main_call10_v1 : Ref sig .tc := ⟨.hbm, 229, rfl⟩
abbrev main_call10_c_0 : Ref sig .tc := ⟨.hbm, 230, rfl⟩
abbrev main_call10_v2 : Ref sig .tc := ⟨.hbm, 231, rfl⟩
abbrev main_call10_v3 : Ref sig .tc := ⟨.hbm, 232, rfl⟩
abbrev main_call10_v4 : Ref sig .tc := ⟨.hbm, 233, rfl⟩
abbrev main_call10_v5 : Ref sig .tc := ⟨.hbm, 234, rfl⟩
abbrev main_call10_c_1 : Ref sig .tc := ⟨.hbm, 235, rfl⟩
abbrev main_call10_c_2 : Ref sig .tc := ⟨.hbm, 236, rfl⟩
abbrev main_call10_v6 : Ref sig .tc := ⟨.hbm, 237, rfl⟩
abbrev main_call10_v7 : Ref sig .tc := ⟨.hbm, 238, rfl⟩
abbrev main_call10_v8 : Ref sig .tc := ⟨.hbm, 239, rfl⟩
abbrev main_call10_v9 : Ref sig .tc := ⟨.hbm, 240, rfl⟩
abbrev main_call10_v10 : Ref sig .tc := ⟨.hbm, 241, rfl⟩
abbrev main_call10_v11 : Ref sig .tc := ⟨.hbm, 242, rfl⟩
abbrev main_call10_c_3 : Ref sig .tc := ⟨.hbm, 243, rfl⟩
abbrev main_call10_v12 : Ref sig .tc := ⟨.hbm, 244, rfl⟩
abbrev main_call10_v13 : Ref sig .tc := ⟨.hbm, 245, rfl⟩
abbrev main_call10_cst : Ref sig .tc := ⟨.hbm, 246, rfl⟩
abbrev main_call10_v14 : Ref sig .tc := ⟨.hbm, 247, rfl⟩
abbrev main_v87 : Ref sig .tc := ⟨.hbm, 248, rfl⟩
abbrev main_v88 : Ref sig .tc := ⟨.hbm, 249, rfl⟩
abbrev main_v89 : Ref sig .tc := ⟨.hbm, 250, rfl⟩
abbrev main_v90 : Ref sig .tc := ⟨.hbm, 251, rfl⟩
abbrev main_v91 : Ref sig .tc := ⟨.hbm, 252, rfl⟩
abbrev main_cst_3 : Ref sig .tc := ⟨.hbm, 253, rfl⟩
abbrev main_v92 : Ref sig .tc := ⟨.hbm, 254, rfl⟩
abbrev main_v93 : Ref sig .tc := ⟨.hbm, 255, rfl⟩
abbrev main_v94 : Ref sig .tc := ⟨.hbm, 256, rfl⟩
abbrev main_v95 : Ref sig .tc := ⟨.hbm, 257, rfl⟩
abbrev main_v96 : Ref sig .tc := ⟨.hbm, 258, rfl⟩
abbrev main_v97 : Ref sig .tc := ⟨.hbm, 259, rfl⟩
abbrev main_cst_4 : Ref sig .tc := ⟨.hbm, 260, rfl⟩
abbrev main_v98 : Ref sig .tc := ⟨.hbm, 261, rfl⟩
abbrev main_v99 : Ref sig .tc := ⟨.hbm, 262, rfl⟩
abbrev main_v100 : Ref sig .tc := ⟨.hbm, 263, rfl⟩
abbrev main_v101 : Ref sig .tc := ⟨.hbm, 264, rfl⟩
abbrev main_v102 : Ref sig .tc := ⟨.hbm, 265, rfl⟩
abbrev main_v103 : Ref sig .tc := ⟨.hbm, 266, rfl⟩
abbrev main_v104 : Ref sig .tc := ⟨.hbm, 267, rfl⟩
abbrev main_cst_5 : Ref sig .tc := ⟨.hbm, 268, rfl⟩
abbrev main_v105 : Ref sig .tc := ⟨.hbm, 269, rfl⟩
abbrev main_v106 : Ref sig .tc := ⟨.hbm, 270, rfl⟩
abbrev main_v107 : Ref sig .tc := ⟨.hbm, 271, rfl⟩
abbrev main_v108 : Ref sig .tc := ⟨.hbm, 272, rfl⟩
abbrev main_v109 : Ref sig .tc := ⟨.hbm, 273, rfl⟩
abbrev main_v110 : Ref sig .tc := ⟨.hbm, 274, rfl⟩
abbrev main_v111 : Ref sig .tc := ⟨.hbm, 275, rfl⟩
abbrev main_v112 : Ref sig .tc := ⟨.hbm, 276, rfl⟩
abbrev main_v113 : Ref sig .tc := ⟨.hbm, 277, rfl⟩
abbrev main_v114 : Ref sig .tc := ⟨.hbm, 278, rfl⟩
abbrev main_v115 : Ref sig .tc := ⟨.hbm, 279, rfl⟩
abbrev main_call11_c : Ref sig .tc := ⟨.hbm, 280, rfl⟩
abbrev main_call11_v0 : Ref sig .tc := ⟨.hbm, 281, rfl⟩
abbrev main_call11_v1 : Ref sig .tc := ⟨.hbm, 282, rfl⟩
abbrev main_call11_c_0 : Ref sig .tc := ⟨.hbm, 283, rfl⟩
abbrev main_call11_v2 : Ref sig .tc := ⟨.hbm, 284, rfl⟩
abbrev main_call11_v3 : Ref sig .tc := ⟨.hbm, 285, rfl⟩
abbrev main_call11_v4 : Ref sig .tc := ⟨.hbm, 286, rfl⟩
abbrev main_call11_v5 : Ref sig .tc := ⟨.hbm, 287, rfl⟩
abbrev main_call11_c_1 : Ref sig .tc := ⟨.hbm, 288, rfl⟩
abbrev main_call11_c_2 : Ref sig .tc := ⟨.hbm, 289, rfl⟩
abbrev main_call11_v6 : Ref sig .tc := ⟨.hbm, 290, rfl⟩
abbrev main_call11_v7 : Ref sig .tc := ⟨.hbm, 291, rfl⟩
abbrev main_call11_v8 : Ref sig .tc := ⟨.hbm, 292, rfl⟩
abbrev main_call11_v9 : Ref sig .tc := ⟨.hbm, 293, rfl⟩
abbrev main_call11_v10 : Ref sig .tc := ⟨.hbm, 294, rfl⟩
abbrev main_call11_v11 : Ref sig .tc := ⟨.hbm, 295, rfl⟩
abbrev main_call11_c_3 : Ref sig .tc := ⟨.hbm, 296, rfl⟩
abbrev main_call11_v12 : Ref sig .tc := ⟨.hbm, 297, rfl⟩
abbrev main_call11_v13 : Ref sig .tc := ⟨.hbm, 298, rfl⟩
abbrev main_call11_cst : Ref sig .tc := ⟨.hbm, 299, rfl⟩
abbrev main_call11_v14 : Ref sig .tc := ⟨.hbm, 300, rfl⟩
abbrev main_v116 : Ref sig .tc := ⟨.hbm, 301, rfl⟩
abbrev main_v117 : Ref sig .tc := ⟨.hbm, 302, rfl⟩
abbrev main_cst_6 : Ref sig .tc := ⟨.hbm, 303, rfl⟩
abbrev main_cst_7 : Ref sig .tc := ⟨.hbm, 304, rfl⟩
abbrev main_v118 : Ref sig .tc := ⟨.hbm, 305, rfl⟩
abbrev main_v119 : Ref sig .tc := ⟨.hbm, 306, rfl⟩
abbrev main_v120 : Ref sig .tc := ⟨.hbm, 307, rfl⟩
abbrev main_v121 : Ref sig .tc := ⟨.hbm, 308, rfl⟩
abbrev main_v122 : Ref sig .tc := ⟨.hbm, 309, rfl⟩

abbrev nD : Nat := 1
abbrev τ : Topo := Topo.v7x

variable {F : FTy → Type} [FloatOps F]
-- ==== Proof.Frames.lean ====
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.ReferenceIdeal

open Idealize.ShloMosaic Idealize.SL.Sem

/-- From any memory the reference terminates without a fault, its arguments end as they began, and every
    semaphore counter reads zero: it has no semaphore at all. -/
theorem quiescent (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r h => ⟨fun c => (h c).2, sem_eq_zero_of_no_sems (by decide) r.2⟩) (Value.run m g)

end Cert.ReferenceIdeal

end
-- ==== Proof.Tent.lean ====
module

public import Mathlib.Algebra.BigOperators.Fin
public import Mathlib.Algebra.BigOperators.Ring.Finset
public import Mathlib.Data.Real.Basic
public import Mathlib.Data.Fintype.Card
public import Mathlib.Order.Fin.Basic
public import Mathlib.Tactic.Linarith
public import Mathlib.Tactic.Ring
public import Mathlib.Tactic.Positivity

@[expose] public section

/-! The sorted prefix-sum formula for a sum of tents, over the reals. -/

namespace Cert.Tent

open Finset

/-- The positions at which a downward closed property holds are exactly the first so many. -/
theorem lt_card_iff {n : ℕ} (p : Fin n → Prop) [DecidablePred p] (hp : ∀ i j : Fin n, i ≤ j → p j → p i) (j : Fin n) :
    j.val < (univ.filter p).card ↔ p j := by
  constructor
  · intro h
    by_contra hj
    have hsub : univ.filter p ⊆ Finset.Iio j := by
      intro i hi
      rw [mem_filter] at hi
      rw [Finset.mem_Iio]
      by_contra hij
      exact hj (hp j i (not_lt.mp hij) hi.2)
    have := Finset.card_le_card hsub
    rw [Fin.card_Iio] at this
    omega
  · intro h
    have hsub : Finset.Iic j ⊆ univ.filter p := by
      intro i hi
      rw [Finset.mem_Iic] at hi
      exact mem_filter.mpr ⟨mem_univ _, hp i j hi h⟩
    have := Finset.card_le_card hsub
    rw [Fin.card_Iic] at this
    omega

/-- The sum of the first `k` values. -/
noncomputable def pre {n : ℕ} (v : Fin n → ℝ) (k : ℕ) : ℝ := ∑ j : Fin n, if j.val < k then v j else 0

/-- The tent of half-width `1 / ib` about `x`, at `y`. -/
noncomputable def tent (ib x y : ℝ) : ℝ := max (1 - |x * ib - y * ib|) 0

/-- With the positions sorted, the sum of the tents about the `p`-th position is read off two prefix sums at
    the two ends of the tent's support and at its middle. -/
theorem sorted_sum {n : ℕ} (z v : Fin n → ℝ) (hz : Monotone z) (ib : ℝ) (hib : 0 ≤ ib) (p : Fin n) (l r : ℕ)
    (hl : l = (univ.filter fun j => 1 < (z p - z j) * ib).card)
    (hr : r = (univ.filter fun j => (z j - z p) * ib ≤ 1).card) :
    ((pre v (p.val + 1) - pre v l) * (1 - z p * ib) + (pre (fun j => v j * z j) (p.val + 1) - pre (fun j => v j * z j) l) * ib)
      + ((pre v r - pre v (p.val + 1)) * (1 + z p * ib) - (pre (fun j => v j * z j) r - pre (fun j => v j * z j) (p.val + 1)) * ib)
      = ∑ j, tent ib (z p) (z j) * v j := by
  have hL : ∀ j : Fin n, j.val < l ↔ 1 < (z p - z j) * ib := fun j => by
    rw [hl]
    refine lt_card_iff _ (fun i j hij h => ?_) j
    have := hz hij
    nlinarith
  have hR : ∀ j : Fin n, j.val < r ↔ (z j - z p) * ib ≤ 1 := fun j => by
    rw [hr]
    refine lt_card_iff _ (fun i j hij h => ?_) j
    have := hz hij
    nlinarith
  unfold pre
  rw [← sum_sub_distrib, ← sum_sub_distrib, ← sum_sub_distrib, ← sum_sub_distrib, sum_mul, sum_mul, sum_mul, sum_mul,
    ← sum_add_distrib, ← sum_sub_distrib, ← sum_add_distrib]
  refine sum_congr rfl fun j _ => ?_
  simp only [hL, hR, tent]
  have hpj : j.val < p.val + 1 ↔ j ≤ p := by rw [Fin.le_def]; omega
  simp only [hpj]
  have hd : z p * ib - z j * ib = (z p - z j) * ib := by ring
  rw [hd]
  by_cases hjp : j ≤ p
  · have h1 : 0 ≤ (z p - z j) * ib := mul_nonneg (sub_nonneg.mpr (hz hjp)) hib
    have h2 : (z j - z p) * ib ≤ 1 := by nlinarith
    rw [abs_of_nonneg h1, if_pos hjp, if_pos hjp, if_pos h2, if_pos h2]
    by_cases h3 : 1 < (z p - z j) * ib
    · rw [if_pos h3, if_pos h3, max_eq_right (by linarith)]; ring
    · rw [if_neg h3, if_neg h3, max_eq_left (by linarith)]; ring
  · have h1 : (z p - z j) * ib ≤ 0 := mul_nonpos_of_nonpos_of_nonneg (sub_nonpos.mpr (hz (le_of_lt (not_le.mp hjp)))) hib
    have h2 : ¬ 1 < (z p - z j) * ib := by linarith
    rw [abs_of_nonpos h1, if_neg hjp, if_neg hjp, if_neg h2, if_neg h2]
    by_cases h3 : (z j - z p) * ib ≤ 1
    · rw [if_pos h3, if_pos h3, max_eq_left (by linarith)]; ring
    · rw [if_neg h3, if_neg h3, max_eq_right (by linarith)]; ring

end Cert.Tent

end
-- ==== Proof.Spec.lean ====
module

public import Idealize.ShloMosaic.PureOps
public import Idealize.ShloMosaic.PureOps.Ideal
public import Idealize.ShloMosaic.Lib.ValueIdxCore
public import proofs.«01_k».proof.Proof.Tent
public import Mathlib.Tactic.Linarith
public import Mathlib.Tactic.NormNum

@[expose] public section

/-! The mathematics both programs compute, over the extended reals, and what it is at real entries. -/

noncomputable section

namespace Cert.Spec

open Idealize.ShloMosaic
open scoped BigOperators

/-- An array of one, two or three axes as a function of its coordinates. -/
abbrev rd1 {a : ℕ} (x : (⟨1, ![a]⟩ : Shape).Idx → EReal) : Fin a → EReal := fun i => x (ValueIdx.ix1 i)
abbrev rd2 {a b : ℕ} (x : (⟨2, ![a, b]⟩ : Shape).Idx → EReal) : Fin a → Fin b → EReal := fun i j => x (ValueIdx.ix2 i j)
abbrev rd3 {a b c : ℕ} (x : (⟨3, ![a, b, c]⟩ : Shape).Idx → EReal) : Fin a → Fin b → Fin c → EReal := fun i j k => x (ValueIdx.ix3 i j k)

/-- One entry of a linear layer: the row of `h` against the row of `W`, plus the bias. -/
def proj (h : Fin 2 → Fin 2048 → Fin 2048 → EReal) (W : Fin 2048 → Fin 2048 → EReal) (b : Fin 2048 → EReal)
    (n : Fin 2) (t e : Fin 2048) : EReal := (∑ k, h n t k * W e k) + b e

/-- The row and the column of the linear layer's output that position `(t, e)` of the regrouped array reads. -/
def zrow (t e : Fin 2048) : Fin 2048 := ⟨(t.val % 128) * 16 + e.val / 128, by omega⟩
def zcol (t e : Fin 2048) : Fin 2048 := ⟨(t.val / 128) * 128 + e.val % 128, by omega⟩

/-- One entry of the projection to the line: the regrouped row `t` against row `h` of `Wp`. -/
def zE (Q : Fin 2 → Fin 2048 → Fin 2048 → EReal) (Wp : Fin 16 → Fin 2048 → EReal) (n : Fin 2) (t : Fin 2048) (h : Fin 16) : EReal :=
  ∑ e, Q n (zrow t e) (zcol t e) * Wp h e

/-- The small constant added to the bandwidth. -/
def eps : EReal := Ideal.ofBits .f32 0x38D1B717#32

/-- The bandwidth: the softplus of the log bandwidth plus the small constant. -/
def bwE (l : EReal) : EReal := (max l 0 + Ideal.log1p (Ideal.exp (-(max l (-l))))) + eps

/-- The inverse bandwidth. -/
def ibE (l : EReal) : EReal := Ideal.div 1 (bwE l)

/-- The tent of two scaled positions. -/
def tentE (ib x y : EReal) : EReal := max (1 - max (x * ib - y * ib) (-(x * ib - y * ib))) 0

/-- Column `d` of head `h`. -/
def hcol (h : Fin 16) (d : Fin 128) : Fin 2048 := ⟨h.val * 128 + d.val, by omega⟩

/-- One entry of the result: the tent-weighted sum of the values of head `h`, over the sequence length. -/
def outE (zq zk : Fin 2 → Fin 2048 → Fin 16 → EReal) (V : Fin 2 → Fin 2048 → Fin 2048 → EReal) (lb : Fin 16 → EReal)
    (n : Fin 2) (t : Fin 2048) (h : Fin 16) (d : Fin 128) : EReal :=
  (∑ s, tentE (ibE (lb h)) (zq n t h) (zk n s h) * V n s (hcol h d)) * ((1 / 2048 : ℝ) : EReal)

/-- The small constant is a positive real. -/
theorem eps_real : ∃ r : ℝ, 0 < r ∧ eps = (r : EReal) := by
  refine ⟨_, ?_, by simp [eps, Ideal.ofBits, Ideal.ieee, -EReal.coe_mul]; rfl⟩
  norm_num

/-- The larger of two reals, in the extended reals. -/
theorem coe_max (x y : ℝ) : ((max x y : ℝ) : EReal) = max (x : EReal) (y : EReal) :=
  Monotone.map_max (fun _ _ h => EReal.coe_le_coe_iff.2 h)

/-- The logarithm of one plus zero is zero. -/
theorem log1p_zero : Ideal.log1p 0 = 0 := by
  unfold Ideal.log1p
  rw [add_zero, ← EReal.coe_one]
  show (if _ then _ else _) = _
  rw [if_neg (by norm_num), Real.log_one, EReal.coe_zero]

/-- A bandwidth is the top element or a positive real. -/
theorem bwE_cases (l : EReal) : bwE l = ⊤ ∨ ∃ r : ℝ, 0 < r ∧ bwE l = (r : EReal) := by
  obtain ⟨e, he, heq⟩ := eps_real
  unfold bwE
  rw [heq]
  induction l with
  | bot =>
    right
    refine ⟨e, he, ?_⟩
    have h1 : Ideal.exp (-(max (⊥ : EReal) (-⊥))) = 0 := by
      rw [EReal.neg_bot, max_eq_right bot_le, EReal.neg_top]; rfl
    rw [h1, log1p_zero, max_eq_right bot_le, zero_add, zero_add]
  | top =>
    left
    have h1 : Ideal.exp (-(max (⊤ : EReal) (-⊤))) = 0 := by
      rw [EReal.neg_top, max_eq_left bot_le, EReal.neg_top]; rfl
    rw [h1, log1p_zero, max_eq_left le_top, add_zero, EReal.top_add_coe]
  | coe x =>
    right
    have h1 : Ideal.exp (-(max (x : EReal) (-(x : EReal)))) = ((Real.exp (-(max x (-x))) : ℝ) : EReal) := by
      rw [← EReal.coe_neg, ← coe_max, ← EReal.coe_neg]; rfl
    have h2 : Ideal.log1p ((Real.exp (-(max x (-x))) : ℝ) : EReal) = ((Real.log (1 + Real.exp (-(max x (-x)))) : ℝ) : EReal) := by
      unfold Ideal.log1p
      rw [← EReal.coe_one, ← EReal.coe_add]
      show (if _ then _ else _) = _
      rw [if_neg (by have := Real.exp_pos (-(max x (-x))); linarith)]
    have h3 : 0 ≤ Real.log (1 + Real.exp (-(max x (-x)))) := Real.log_nonneg (by have := Real.exp_pos (-(max x (-x))); linarith)
    refine ⟨max x 0 + Real.log (1 + Real.exp (-(max x (-x)))) + e, by have := le_max_right x 0; linarith, ?_⟩
    rw [h1, h2, EReal.coe_add, EReal.coe_add, coe_max, EReal.coe_zero]

/-- What the bandwidth does at real positions, through one real nonnegative inverse bandwidth. -/
theorem ib_real (l : EReal) : ∃ ib : ℝ, 0 ≤ ib ∧ ibE l = (ib : EReal) ∧ (∀ x : ℝ, Ideal.div (x : EReal) (bwE l) = ((x * ib : ℝ) : EReal))
    ∧ (∀ x y : ℝ, (y : EReal) < (x : EReal) - bwE l ↔ 1 < (x - y) * ib) ∧ (∀ x y : ℝ, (y : EReal) ≤ (x : EReal) + bwE l ↔ (y - x) * ib ≤ 1) := by
  rcases bwE_cases l with h | ⟨r, hr, h⟩
  · refine ⟨0, le_refl _, ?_, ?_, ?_, ?_⟩
    · simp [ibE, h, Ideal.div]
    · intro x; simp [h, Ideal.div]
    · intro x y; simp [h]
    · intro x y; simp [h]
  · refine ⟨r⁻¹, (inv_pos.2 hr).le, ?_, ?_, ?_, ?_⟩
    · rw [ibE, h, show (1 : EReal) = ((1 : ℝ) : EReal) from rfl, Ideal.div_coe hr.ne', one_div, ← EReal.coe_mul, one_mul]
    · intro x; rw [h, Ideal.div_coe hr.ne', one_div, ← EReal.coe_mul]
    · intro x y
      rw [h, ← EReal.coe_sub, EReal.coe_lt_coe_iff, ← div_eq_mul_inv, lt_div_iff₀ hr]
      constructor <;> intro <;> linarith
    · intro x y
      rw [h, ← EReal.coe_add, EReal.coe_le_coe_iff, ← div_eq_mul_inv, div_le_iff₀ hr]
      constructor <;> intro <;> linarith

/-- The tent at reals is the real tent. -/
theorem tentE_coe (ib x y : ℝ) : tentE (ib : EReal) (x : EReal) (y : EReal) = ((Cert.Tent.tent ib x y : ℝ) : EReal) := by
  unfold tentE Cert.Tent.tent
  rw [← EReal.coe_mul, ← EReal.coe_mul, ← EReal.coe_sub, ← EReal.coe_neg, ← coe_max, ← EReal.coe_one, ← EReal.coe_sub,
    ← EReal.coe_zero, ← coe_max]
  rfl

/-- A finite sum of reals in the extended reals is the real sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A linear layer of real entries is real. -/
theorem proj_real (h : Fin 2 → Fin 2048 → Fin 2048 → EReal) (W : Fin 2048 → Fin 2048 → EReal) (b : Fin 2048 → EReal)
    (hh : ∀ n t k, ∃ r : ℝ, h n t k = r) (hW : ∀ e k, ∃ r : ℝ, W e k = r) (hb : ∀ e, ∃ r : ℝ, b e = r) :
    ∃ Q : Fin 2 → Fin 2048 → Fin 2048 → ℝ, ∀ n t e, proj h W b n t e = (Q n t e : EReal) := by
  choose h' hh using hh
  choose W' hW using hW
  choose b' hb using hb
  refine ⟨fun n t e => (∑ k, h' n t k * W' e k) + b' e, fun n t e => ?_⟩
  unfold proj
  rw [EReal.coe_add, coe_sum, hb]
  refine congrArg (· + (b' e : EReal)) ?_
  refine Finset.sum_congr rfl fun k _ => ?_
  rw [hh, hW, EReal.coe_mul]

/-- The projection to the line of real entries is real. -/
theorem zE_real (Q : Fin 2 → Fin 2048 → Fin 2048 → EReal) (Wp : Fin 16 → Fin 2048 → EReal)
    (hQ : ∃ Q' : Fin 2 → Fin 2048 → Fin 2048 → ℝ, ∀ n t e, Q n t e = (Q' n t e : EReal)) (hW : ∀ h e, ∃ r : ℝ, Wp h e = r) :
    ∃ z : Fin 2 → Fin 2048 → Fin 16 → ℝ, ∀ n t h, zE Q Wp n t h = (z n t h : EReal) := by
  obtain ⟨Q', hQ⟩ := hQ
  choose W' hW using hW
  refine ⟨fun n t h => ∑ e, Q' n (zrow t e) (zcol t e) * W' h e, fun n t h => ?_⟩
  unfold zE
  rw [coe_sum]
  refine Finset.sum_congr rfl fun e _ => ?_
  rw [hQ, hW, EReal.coe_mul]

/-- The result at real entries is a real sum of tents over the sequence length. -/
theorem outE_coe (zq zk : Fin 2 → Fin 2048 → Fin 16 → ℝ) (V : Fin 2 → Fin 2048 → Fin 2048 → ℝ) (lb : Fin 16 → EReal)
    (n : Fin 2) (t : Fin 2048) (h : Fin 16) (d : Fin 128) (ib : ℝ) (hib : ibE (lb h) = (ib : EReal)) :
    outE (fun n t h => zq n t h) (fun n t h => zk n t h) (fun n t e => V n t e) lb n t h d
      = (((∑ s, Cert.Tent.tent ib (zq n t h) (zk n s h) * V n s (hcol h d)) / 2048 : ℝ) : EReal) := by
  unfold outE
  rw [hib, div_eq_mul_one_div (∑ s, Cert.Tent.tent ib (zq n t h) (zk n s h) * V n s (hcol h d)), EReal.coe_mul, coe_sum]
  refine congrArg (· * ((1 / 2048 : ℝ) : EReal)) ?_
  refine Finset.sum_congr rfl fun s _ => ?_
  rw [tentE_coe, EReal.coe_mul]

end Cert.Spec
-- ==== Proof.Finite.lean ====
module

public import proofs.«01_k».proof.Pre_finite
public import proofs.«01_k».proof.Proof.Gen.Pre_finite
public import proofs.«01_k».proof.Proof.Spec
public import Idealize.ShloMosaic.Lib.StableHlo.Predicate

@[expose] public section

/-! The precondition read entry by entry: an entry whose absolute value is below infinity is a real number. -/

noncomputable section

namespace Cert.Finite

open Idealize.ShloMosaic

/-- The infinite pattern is the top element. -/
theorem infBits : Ideal.ofBits .f32 0x7F800000#32 = ⊤ := by
  simp [Ideal.ofBits, Ideal.ieee]

/-- A number whose absolute value is below the top element is real. -/
theorem real_of_lt (x : EReal) (h : Ideal.cmp .olt (max x (-x)) (Ideal.ofBits .f32 0x7F800000#32) = 1#1) : ∃ r : ℝ, x = (r : EReal) := by
  rw [infBits] at h
  have hlt : max x (-x) < ⊤ := by
    have := (StableHlo.Predicate.ofBool_eq_one_iff _).1 h
    simpa using this
  induction x with
  | bot => simp at hlt
  | top => simp at hlt
  | coe r => exact ⟨r, rfl⟩

/-- A comparison that is one everywhere makes every entry real. -/
theorem real_of_all {s : Shape} (x : FVec Ideal s .f32) (hb : (⟨0, ![]⟩ : Shape).BroadcastsInDim s (![] : Fin 0 → Fin s.rank))
    (h : cmpf .olt (Host.absf x) (broadcastInDim s ![] hb (constant (F := Ideal) ⟨0, ![]⟩ .f32 0x7F800000#32)) = fun _ => 1#1) (i : s.Idx) :
    ∃ r : ℝ, (x i : EReal) = (r : EReal) :=
  real_of_lt (x i) (congrFun h i)

end Cert.Finite

end
-- ==== Proof.KQkv.lean ====
module

public import proofs.«01_k».proof.Proof.Gen.KernelIdeal.Frame
public import Idealize.ShloMosaic.Lib.MatmulPlain
public import Idealize.ShloMosaic.Lib.ValueLayout
public import Idealize.ShloMosaic.Lib.Pipeline.ValueKit
public import Idealize.ShloMosaic.Lib.Pipeline.Value
public import proofs.«01_k».proof.Proof.Spec

@[expose] public section

/-! The fused projection: what one block of 512 rows computes and what its three result arrays hold. -/

noncomputable section

namespace Cert.KQkv

open Idealize.ShloMosaic hiding ix1 ix2 ix3 ix4
open Idealize.ShloMosaic.ValueIdx Idealize.ShloMosaic.TcCoe
open Cert.KernelIdeal Cert.KernelIdeal.Gen
open scoped BigOperators

/-- One projection of a flat array of rows: at row `r` and column `e` the inner product of the row with the weights of
`e`, and the bias of `e`. -/
def rows (h : S4096x2048.Idx → EReal) (W : S2048x2048.Idx → EReal) (b : S1x2048.Idx → EReal) (i : S4096x2048.Idx) : EReal :=
  (∑ k : Fin 2048, h (ix2 (i 0) k) * W (ix2 (i 1) k)) + b (ix2 0 (i 1))

/-- The zero pattern is zero. -/
theorem zeroBits : FloatOps.ofBits (F := Ideal) .f32 0x00000000#32 = 0 := by
  simp [Ideal.ofBits, Ideal.ieee]

/-- The block's product and bias at row `r` and column `e`. -/
theorem pay2_at (x : Vec Ideal S512x2048 .f32) (W : Vec Ideal S2048x2048 .bf16) (b : Vec Ideal S1x2048 .f32) (r : Fin 512) (e : Fin 2048) :
    k0_pay2 (F := Ideal) x W b (ix2 r e) = ((∑ k : Fin 2048, (x (ix2 r k) : EReal) * W (ix2 e k)) + b (ix2 0 e) : EReal) := by
  unfold k0_pay2 k0_pay1
  rw [shapeCast_self, shapeCast_self, shapeCast_self]
  refine congrArg₂ (fun u v : EReal => u + v) ?_ (broadcastTo_1b_ab_apply b _ r e)
  refine (Ideal.matmul_transposedRhs_apply none _ _ _ r e).trans ?_
  rw [show (constant S512x2048 .f32 0x00000000#32 : FVec Ideal S512x2048 .f32) (ix2 r e) = (0 : EReal) from
    zeroBits]
  exact zero_add _

/-- The three payloads are one function. -/
theorem pay3_eq : @k0_pay3 Ideal = @k0_pay2 Ideal := rfl
/-- The three payloads are one function. -/
theorem pay4_eq : @k0_pay4 Ideal = @k0_pay2 Ideal := rfl

variable (V : (c : Dev nD) → (b : Ref sig .tc) → Buf (Elt Ideal) ((c : Thread nD τ).loc b)) (c : Dev nD)

/-- The row windows take block `t` of the rows at point `t`; the weights and the biases are taken whole. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

/-- Row `r` of block `t` of 512 rows. -/
def brow (t : Fin cfg0.N) (r : Fin 512) : Fin 4096 :=
  ⟨t.val * 512 + r.val, by have : t.val < 8 := t.isLt; have := r.isLt; omega⟩

/-- Two multi-indices of two axes agree when their coordinates do. -/
theorem ext2 {a b : ℕ} (i : (⟨2, ![a, b]⟩ : Shape).Idx) (p : Fin a) (q : Fin b) (h0 : (i 0).val = p.val) (h1 : (i 1).val = q.val) :
    i = ix2 p q := by
  funext x; apply Fin.ext
  match x with
  | ⟨0, _⟩ => exact h0
  | ⟨1, _⟩ => exact h1

/-- A row block read at row `r`. -/
theorem iblk_row (t : Fin cfg0.N) (r : Fin 512) (k : Fin 2048) : iblk0 V c 0 t (ix2 r k) = V c main_v0 (ix2 (brow t r) k) := by
  obtain ⟨⟨a0, a1⟩, -⟩ := idx_facts t
  blk_simp [iblk0]
  exact congrArg (V c main_v0) (ext2 _ _ _ (by blk_simp [a0]; rfl) (by blk_simp [a1]))

/-- The weights are read whole. -/
theorem iblk_w1 (t : Fin cfg0.N) : iblk0 V c 1 t = V c main_v1 := by
  obtain ⟨-, ⟨a0, a1⟩, -⟩ := idx_facts t
  funext j
  blk_simp [iblk0]
  exact congrArg (V c main_v1) (funext fun a => Fin.ext (by match a with | ⟨0, _⟩ => blk_simp [a0] | ⟨1, _⟩ => blk_simp [a1]))

/-- The weights are read whole. -/
theorem iblk_w2 (t : Fin cfg0.N) : iblk0 V c 2 t = V c main_v2 := by
  obtain ⟨-, -, ⟨a0, a1⟩, -⟩ := idx_facts t
  funext j
  blk_simp [iblk0]
  exact congrArg (V c main_v2) (funext fun a => Fin.ext (by match a with | ⟨0, _⟩ => blk_simp [a0] | ⟨1, _⟩ => blk_simp [a1]))

/-- The weights are read whole. -/
theorem iblk_w3 (t : Fin cfg0.N) : iblk0 V c 3 t = V c main_v3 := by
  obtain ⟨-, -, -, ⟨a0, a1⟩, -⟩ := idx_facts t
  funext j
  blk_simp [iblk0]
  exact congrArg (V c main_v3) (funext fun a => Fin.ext (by match a with | ⟨0, _⟩ => blk_simp [a0] | ⟨1, _⟩ => blk_simp [a1]))

/-- The bias is read whole. -/
theorem iblk_b4 (t : Fin cfg0.N) : iblk0 V c 4 t = V c main_v4 := by
  obtain ⟨-, -, -, -, ⟨a0, a1⟩, -⟩ := idx_facts t
  funext j
  blk_simp [iblk0]
  exact congrArg (V c main_v4) (funext fun a => Fin.ext (by match a with | ⟨0, _⟩ => blk_simp [a0] | ⟨1, _⟩ => blk_simp [a1]))

/-- The bias is read whole. -/
theorem iblk_b5 (t : Fin cfg0.N) : iblk0 V c 5 t = V c main_v5 := by
  obtain ⟨-, -, -, -, -, ⟨a0, a1⟩, -⟩ := idx_facts t
  funext j
  blk_simp [iblk0]
  exact congrArg (V c main_v5) (funext fun a => Fin.ext (by match a with | ⟨0, _⟩ => blk_simp [a0] | ⟨1, _⟩ => blk_simp [a1]))

/-- The bias is read whole. -/
theorem iblk_b6 (t : Fin cfg0.N) : iblk0 V c 6 t = V c main_v6 := by
  obtain ⟨-, -, -, -, -, -, ⟨a0, a1⟩, -⟩ := idx_facts t
  funext j
  blk_simp [iblk0]
  exact congrArg (V c main_v6) (funext fun a => Fin.ext (by match a with | ⟨0, _⟩ => blk_simp [a0] | ⟨1, _⟩ => blk_simp [a1]))

/-- One block's payload at the array's row. -/
theorem point (t : Fin cfg0.N) (W : Vec Ideal S2048x2048 .bf16) (b : Vec Ideal S1x2048 .f32) (r : Fin 512) (e : Fin 2048) :
    k0_pay2 (F := Ideal) (iblk0 V c 0 t) W b (ix2 r e) = rows (V c main_v0) W b (ix2 (brow t r) e) := by
  rw [pay2_at]
  exact congrArg₂ (fun u v : EReal => u + v)
    (Finset.sum_congr rfl fun k _ => congrArg₂ (fun u v : EReal => u * v) (iblk_row V c t r k) rfl) rfl

/-- The array of window 7 ends holding its projection of the rows. -/
theorem q_eq : (dat0 V c).arrAt 7 cfg0.N = rows (V c main_v0) (V c main_v1) (V c main_v4) := by
  refine (dat0 V c).arrAt_eq_of_covers 7 _ (by decide +kernel) fun t hf y => ?_
  obtain ⟨-, -, -, -, -, -, -, ⟨a0, a1⟩, -⟩ := idx_facts t
  blk_simp
  rw [after0_7]
  frame_out
  obtain ⟨r, e, rfl⟩ : ∃ (r : Fin 512) (e : Fin 2048), y = ix2 r e := ⟨y 0, y 1, ValueIdx.eq_ix2 y⟩
  rw [iblk_w1, iblk_b4, point]
  exact congrArg (rows _ _ _) (ext2 _ _ _ (by blk_simp [a0]; rfl) (by blk_simp [a1])).symm

/-- The array of window 8 ends holding its projection of the rows. -/
theorem k_eq : (dat0 V c).arrAt 8 cfg0.N = rows (V c main_v0) (V c main_v2) (V c main_v5) := by
  refine (dat0 V c).arrAt_eq_of_covers 8 _ (by decide +kernel) fun t hf y => ?_
  obtain ⟨-, -, -, -, -, -, -, -, ⟨a0, a1⟩, -⟩ := idx_facts t
  blk_simp
  rw [after0_8]
  frame_out
  obtain ⟨r, e, rfl⟩ : ∃ (r : Fin 512) (e : Fin 2048), y = ix2 r e := ⟨y 0, y 1, ValueIdx.eq_ix2 y⟩
  rw [pay3_eq, iblk_w2, iblk_b5, point]
  exact congrArg (rows _ _ _) (ext2 _ _ _ (by blk_simp [a0]; rfl) (by blk_simp [a1])).symm

/-- The array of window 9 ends holding its projection of the rows. -/
theorem v_eq : (dat0 V c).arrAt 9 cfg0.N = rows (V c main_v0) (V c main_v3) (V c main_v6) := by
  refine (dat0 V c).arrAt_eq_of_covers 9 _ (by decide +kernel) fun t hf y => ?_
  obtain ⟨-, -, -, -, -, -, -, -, -, ⟨a0, a1⟩⟩ := idx_facts t
  blk_simp
  rw [after0_9]
  frame_out
  obtain ⟨r, e, rfl⟩ : ∃ (r : Fin 512) (e : Fin 2048), y = ix2 r e := ⟨y 0, y 1, ValueIdx.eq_ix2 y⟩
  rw [pay4_eq, iblk_w3, iblk_b6, point]
  exact congrArg (rows _ _ _) (ext2 _ _ _ (by blk_simp [a0]; rfl) (by blk_simp [a1])).symm

end Cert.KQkv

end
-- ==== Proof.KZ.lean ====
module

public import proofs.«01_k».proof.Proof.KQkv

@[expose] public section

/-! The scalar projections of the queries and the keys: what one block of 128 positions computes and what the two result
arrays hold. -/

noncomputable section

namespace Cert.KZ

open Idealize.ShloMosaic hiding ix1 ix2 ix3 ix4
open Idealize.ShloMosaic.ValueIdx Idealize.ShloMosaic.TcCoe
open Cert.KernelIdeal Cert.KernelIdeal.Gen Cert.KQkv
open scoped BigOperators

/-- Column `j` of slab `a`. -/
def col (a : Fin 16) (j : Fin 128) : Fin 2048 := ⟨a.val * 128 + j.val, by omega⟩

/-- Slab `a`'s share of the inner product of position `i` with head `h`. -/
def slab (X : S128x16x128.Idx → EReal) (W : S16x2048.Idx → EReal) (i : Fin 128) (h : Fin 16) (a : Fin 16) : EReal :=
  ∑ j : Fin 128, X (ix3 i a j) * W (ix2 h (col a j))

/-- A slab cut out of the block and flattened, at a position and a column. -/
theorem cut_at (o : ℕ) (ho : o < 16) (X : Vec Ideal S128x16x128 .f32) (h1 : S128x16x128.Slices ![0, o, 0] S128x1x128)
    (h2 : S128x1x128.ShapeCasts S128x128) (i j : Fin 128) :
    shapeCast S128x128 (extractStridedSlice S128x1x128 ![0, o, 0] X h1) h2 (ix2 i j) = X (ix3 i ⟨o, ho⟩ j) := by
  rw [shapeCast_apply _ h2 (ix2 i j) (ix3 i (0 : Fin 1) j) (by
    rw [Shape.rowMajor_val_three, Shape.rowMajor_val_two]
    show (i.val * 1 + 0) * 128 + j.val = i.val * 128 + j.val
    omega)]
  exact slice3_axis1_apply o X h1 i 0 j ⟨o, ho⟩ rfl

/-- The queries' product over one slab. -/
theorem qterm (o p : ℕ) (ho : o < 16) (hp : p = o * 128) (X : Vec Ideal S128x16x128 .f32) (W : Vec Ideal S16x2048 .f32)
    (h1 : S128x16x128.Slices ![0, o, 0] S128x1x128) (h2 : S128x1x128.ShapeCasts S128x128)
    (h3 : S16x2048.Slices ![0, p] S16x128) (i : Fin 128) (h : Fin 16) :
    matmul (F := Ideal) (φ₁ := .f32) (φ₂ := .f32) dot_S128x128_S16x128_S128x16_1_1_0_0_n_n none (shapeCast S128x128 (extractStridedSlice S128x1x128 ![0, o, 0] X h1) h2)
      (extractStridedSlice S16x128 ![0, p] W h3) (constant S128x16 .f32 0x00000000#32) (ix2 i h) = slab X W i h ⟨o, ho⟩ := by
  subst hp
  refine (Ideal.matmul_transposedRhs_apply none _ _ _ i h).trans ?_
  rw [show (constant S128x16 .f32 0x00000000#32 : FVec Ideal S128x16 .f32) (ix2 i h) = (0 : EReal) from zeroBits]
  refine (zero_add _).trans (Finset.sum_congr rfl fun j _ => congrArg₂ (fun u v : EReal => u * v) (cut_at o ho X h1 h2 i j) ?_)
  exact slice2_axis1_apply (o * 128) W h3 h j (col ⟨o, ho⟩ j) rfl

/-- The keys' product over one slab. -/
theorem kterm (o p : ℕ) (ho : o < 16) (hp : p = o * 128) (X : Vec Ideal S128x16x128 .f32) (W : Vec Ideal S16x2048 .f32)
    (h1 : S128x16x128.Slices ![0, o, 0] S128x1x128) (h2 : S128x1x128.ShapeCasts S128x128)
    (h3 : S16x2048.Slices ![0, p] S16x128) (i : Fin 128) (h : Fin 16) :
    matmul (F := Ideal) (φ₁ := .f32) (φ₂ := .f32) dot_S16x128_S128x128_S16x128_1_1_0_0_n_n none (extractStridedSlice S16x128 ![0, p] W h3)
      (shapeCast S128x128 (extractStridedSlice S128x1x128 ![0, o, 0] X h1) h2) (constant S16x128 .f32 0x00000000#32) (ix2 h i) = slab X W i h ⟨o, ho⟩ := by
  subst hp
  refine (Ideal.matmul_transposedRhs_apply none _ _ _ h i).trans ?_
  rw [show (constant S16x128 .f32 0x00000000#32 : FVec Ideal S16x128 .f32) (ix2 h i) = (0 : EReal) from zeroBits]
  refine (zero_add _).trans (Finset.sum_congr rfl fun j _ => (mul_comm (_ : EReal) _).trans (congrArg₂ (fun u v : EReal => u * v) (cut_at o ho X h1 h2 i j) ?_))
  exact slice2_axis1_apply (o * 128) W h3 h j (col ⟨o, ho⟩ j) rfl

/-- The block the queries' products read is the input block with its unit axis dropped. -/
theorem pay28_eq (x0 x1 : Vec Ideal S1x128x16x128 .f32) (W : Vec Ideal S16x2048 .f32) :
    k1_pay28 (F := Ideal) x0 x1 W = k1_pay4 (F := Ideal) x0 := by
  unfold k1_pay28
  exact congrArg k1_pay4 (View.ld_unit_lit _ _ (by decide))

/-- The block the keys' products read is the input block with its unit axis dropped. -/
theorem pay29_eq (x0 x1 : Vec Ideal S1x128x16x128 .f32) (W : Vec Ideal S16x2048 .f32) :
    k1_pay29 (F := Ideal) x0 x1 W = k1_pay4 (F := Ideal) x1 := by
  unfold k1_pay29
  exact congrArg k1_pay5 (View.ld_unit_lit _ _ (by decide))

/-- The queries' block is the sum of its sixteen slabs. -/
theorem qblock (x0 x1 : Vec Ideal S1x128x16x128 .f32) (W : Vec Ideal S16x2048 .f32) (i : Fin 128) (h : Fin 16) :
    out1_3 (F := Ideal) x0 x1 W (ix3 (0 : Fin 1) i h) = ∑ a : Fin 16, slab (k1_pay4 (F := Ideal) x0) W i h a := by
  frame_out
  rw [pay28_eq]
  unfold k1_pay2 k1_pay24 k1_pay17 k1_pay11 k1_pay27 k1_pay1 k1_pay6 k1_pay7 k1_pay8 k1_pay10 k1_pay12 k1_pay13 k1_pay14 k1_pay15 k1_pay16
    k1_pay19 k1_pay20 k1_pay21 k1_pay22 k1_pay23 k1_pay26
  generalize k1_pay4 (F := Ideal) x0 = X
  refine (shapeCast_ab_1ab_apply _ _ _ _ _).trans ?_
  simp only [Fin.sum_univ_castSucc, Fin.sum_univ_zero]
  iterate 16 refine congrArg₂ (fun u v : EReal => u + v) ?_ ?_
  · exact zeroBits
  all_goals exact qterm _ _ _ (by rfl) X W _ _ _ i h

/-- The keys' block is the sum of its sixteen slabs. -/
theorem kblock (x0 x1 : Vec Ideal S1x128x16x128 .f32) (W : Vec Ideal S16x2048 .f32) (i : Fin 128) (h : Fin 16) :
    out1_4 (F := Ideal) x0 x1 W (ix3 (0 : Fin 1) h i) = ∑ a : Fin 16, slab (k1_pay4 (F := Ideal) x1) W i h a := by
  frame_out
  rw [pay29_eq]
  unfold k1_pay3 k1_pay25 k1_pay18 k1_pay9 k1_pay5 k1_pay4 k1_pay1 k1_pay6 k1_pay7 k1_pay8 k1_pay10 k1_pay12 k1_pay13 k1_pay14 k1_pay15 k1_pay16
    k1_pay19 k1_pay20 k1_pay21 k1_pay22 k1_pay23 k1_pay26
  generalize shapeCast S128x16x128 x1 _ = X
  refine (shapeCast_ab_1ab_apply _ _ _ _ _).trans ?_
  simp only [Fin.sum_univ_castSucc, Fin.sum_univ_zero]
  iterate 16 refine congrArg₂ (fun u v : EReal => u + v) ?_ ?_
  · exact zeroBits
  all_goals exact kterm _ _ _ (by rfl) X W _ _ _ i h

/-- Position `t` of batch `n` against head `h`: the sum over the sixteen slabs of the rows that the position's block holds. -/
def zsum (X : S2x128x16x2048.Idx → EReal) (W : S16x2048.Idx → EReal) (n : Fin 2) (t : Fin 2048) (h : Fin 16) : EReal :=
  ∑ a : Fin 16, ∑ j : Fin 128,
    X (ix4 n (⟨t.val % 128, by omega⟩ : Fin 128) a (⟨t.val / 128 * 128 + j.val, by omega⟩ : Fin 2048)) * W (ix2 h (col a j))

variable (V : (c : Dev nD) → (b : Ref sig .tc) → Buf (Elt Ideal) ((c : Thread nD τ).loc b)) (c : Dev nD)

/-- Point `t` is batch `t / 16` and column block `t % 16`; the weights are taken whole. -/
theorem idx_facts : ∀ t : Fin cfg1.N,
    (win1_0.index t (0 : Fin 4) = t.val / 16 ∧ win1_0.index t (1 : Fin 4) = 0 ∧ win1_0.index t (2 : Fin 4) = 0 ∧ win1_0.index t (3 : Fin 4) = t.val % 16)
    ∧ (win1_1.index t (0 : Fin 4) = t.val / 16 ∧ win1_1.index t (1 : Fin 4) = 0 ∧ win1_1.index t (2 : Fin 4) = 0 ∧ win1_1.index t (3 : Fin 4) = t.val % 16)
    ∧ (win1_2.index t (0 : Fin 2) = 0 ∧ win1_2.index t (1 : Fin 2) = 0)
    ∧ (win1_3.index t (0 : Fin 3) = t.val / 16 ∧ win1_3.index t (1 : Fin 3) = t.val % 16 ∧ win1_3.index t (2 : Fin 3) = 0)
    ∧ (win1_4.index t (0 : Fin 3) = t.val / 16 ∧ win1_4.index t (1 : Fin 3) = 0 ∧ win1_4.index t (2 : Fin 3) = t.val % 16) :=
  (by decide +kernel : ∀ t : Fin grid1.N, _)

/-- The batch of point `t`. -/
def bat (t : Fin cfg1.N) : Fin 2 := ⟨t.val / 16, by have : t.val < 32 := t.isLt; omega⟩
/-- Position `i` of the column block of point `t`. -/
def pos (t : Fin cfg1.N) (i : Fin 128) : Fin 2048 := ⟨t.val % 16 * 128 + i.val, by have := i.isLt; omega⟩

/-- Two multi-indices of three axes agree when their coordinates do. -/
theorem ext3 {a b d : ℕ} (i : (⟨3, ![a, b, d]⟩ : Shape).Idx) (p : Fin a) (q : Fin b) (r : Fin d)
    (h0 : (i 0).val = p.val) (h1 : (i 1).val = q.val) (h2 : (i 2).val = r.val) : i = ix3 p q r := by
  funext x; apply Fin.ext
  match x with
  | ⟨0, _⟩ => exact h0
  | ⟨1, _⟩ => exact h1
  | ⟨2, _⟩ => exact h2

/-- Two multi-indices of four axes agree when their coordinates do. -/
theorem ext4 {a b d e : ℕ} (i : (⟨4, ![a, b, d, e]⟩ : Shape).Idx) (p : Fin a) (q : Fin b) (r : Fin d) (s : Fin e)
    (h0 : (i 0).val = p.val) (h1 : (i 1).val = q.val) (h2 : (i 2).val = r.val) (h3 : (i 3).val = s.val) : i = ix4 p q r s := by
  funext x; apply Fin.ext
  match x with
  | ⟨0, _⟩ => exact h0
  | ⟨1, _⟩ => exact h1
  | ⟨2, _⟩ => exact h2
  | ⟨3, _⟩ => exact h3

/-- The queries' block of point `t`, with its unit axis dropped, at coordinates. -/
theorem iblk_q (t : Fin cfg1.N) (i : Fin 128) (a : Fin 16) (j : Fin 128) :
    k1_pay4 (F := Ideal) (iblk1 V c 0 t) (ix3 i a j) = V c main_v8 (ix4 (bat t) i a (pos t j)) := by
  obtain ⟨⟨a0, a1, a2, a3⟩, -⟩ := idx_facts t
  unfold k1_pay4
  refine (shapeCast_1abc_abc_apply _ _ _ _ _).trans ?_
  blk_simp [iblk1]
  exact congrArg (V c main_v8) (ext4 _ _ _ _ _ (by blk_simp [a0]; rfl) (by blk_simp [a1]) (by blk_simp [a2]) (by blk_simp [a3]; rfl))

/-- The keys' block of point `t`, with its unit axis dropped, at coordinates. -/
theorem iblk_k (t : Fin cfg1.N) (i : Fin 128) (a : Fin 16) (j : Fin 128) :
    k1_pay4 (F := Ideal) (iblk1 V c 1 t) (ix3 i a j) = V c main_v9 (ix4 (bat t) i a (pos t j)) := by
  obtain ⟨-, ⟨a0, a1, a2, a3⟩, -⟩ := idx_facts t
  unfold k1_pay4
  refine (shapeCast_1abc_abc_apply _ _ _ _ _).trans ?_
  blk_simp [iblk1]
  exact congrArg (V c main_v9) (ext4 _ _ _ _ _ (by blk_simp [a0]; rfl) (by blk_simp [a1]) (by blk_simp [a2]) (by blk_simp [a3]; rfl))

/-- The weights are read whole. -/
theorem iblk_w (t : Fin cfg1.N) : iblk1 V c 2 t = V c main_arg7 := by
  obtain ⟨-, -, ⟨a0, a1⟩, -⟩ := idx_facts t
  funext j
  blk_simp [iblk1]
  exact congrArg (V c main_arg7) (funext fun a => Fin.ext (by match a with | ⟨0, _⟩ => blk_simp [a0] | ⟨1, _⟩ => blk_simp [a1]))

/-- The slabs of a block are the array's at the block's position. -/
theorem point (t : Fin cfg1.N) (X : S128x16x128.Idx → EReal) (Y : S2x128x16x2048.Idx → EReal) (W : S16x2048.Idx → EReal)
    (hX : ∀ i a j, X (ix3 i a j) = Y (ix4 (bat t) i a (pos t j))) (i : Fin 128) (h : Fin 16) :
    ∑ a : Fin 16, slab X W i h a = zsum Y W (bat t) (pos t i) h := by
  refine Finset.sum_congr rfl fun a _ => Finset.sum_congr rfl fun j _ => congrArg₂ (fun u v : EReal => u * v) ((hX i a j).trans ?_) rfl
  refine congrArg Y (ext4 _ _ _ _ _ rfl ?_ rfl ?_)
  · show i.val = (t.val % 16 * 128 + i.val) % 128
    omega
  · show t.val % 16 * 128 + j.val = (t.val % 16 * 128 + i.val) / 128 * 128 + j.val
    omega

/-- The queries' array ends holding each position's scalar projection per head. -/
theorem qp_eq : (dat1 V c).arrAt 3 cfg1.N = fun i : S2x2048x16.Idx => zsum (V c main_v8) (V c main_arg7) (i 0) (i 1) (i 2) := by
  refine (dat1 V c).arrAt_eq_of_covers 3 _ (by decide +kernel) fun t hf y => ?_
  obtain ⟨-, -, -, ⟨a0, a1, a2⟩, -⟩ := idx_facts t
  blk_simp
  rw [after1_3, iblk_w]
  obtain ⟨u, i, h, rfl⟩ : ∃ (u : Fin 1) (i : Fin 128) (h : Fin 16), y = ix3 u i h := ⟨y 0, y 1, y 2, ValueIdx.eq_ix3 y⟩
  obtain rfl : u = 0 := Subsingleton.elim _ _
  rw [qblock, point t _ (V c main_v8) _ (fun i a j => iblk_q V c t i a j)]
  rw [show (win1_3.blk t).view.emb (ix3 (0 : Fin 1) i h) = ix3 (bat t) (pos t i) h from
    ext3 _ _ _ _ (by blk_simp [a0]; rfl) (by blk_simp [a1]; rfl) (by blk_simp [a2])]

/-- The keys' array ends holding each position's scalar projection per head, heads first. -/
theorem kp_eq : (dat1 V c).arrAt 4 cfg1.N = fun i : S2x16x2048.Idx => zsum (V c main_v9) (V c main_arg7) (i 0) (i 2) (i 1) := by
  refine (dat1 V c).arrAt_eq_of_covers 4 _ (by decide +kernel) fun t hf y => ?_
  obtain ⟨-, -, -, -, ⟨a0, a1, a2⟩⟩ := idx_facts t
  blk_simp
  rw [after1_4, iblk_w]
  obtain ⟨u, h, i, rfl⟩ : ∃ (u : Fin 1) (h : Fin 16) (i : Fin 128), y = ix3 u h i := ⟨y 0, y 1, y 2, ValueIdx.eq_ix3 y⟩
  obtain rfl : u = 0 := Subsingleton.elim _ _
  rw [kblock, point t _ (V c main_v9) _ (fun i a j => iblk_k V c t i a j)]
  rw [show (win1_4.blk t).view.emb (ix3 (0 : Fin 1) h i) = ix3 (bat t) h (pos t i) from
    ext3 _ _ _ _ (by blk_simp [a0]; rfl) (by blk_simp [a1]) (by blk_simp [a2]; rfl)]

end Cert.KZ

end
-- ==== Proof.KAttn.lean ====
module

public import proofs.«01_k».proof.Proof.KZ
public import Idealize.ShloMosaic.Lib.Pointwise.Reduce

@[expose] public section

/-! The attention: what one block of 1024 positions of one head computes and what the result array holds. -/

noncomputable section

namespace Cert.KAttn

open Idealize.ShloMosaic hiding ix1 ix2 ix3 ix4
open Idealize.ShloMosaic.ValueIdx Idealize.ShloMosaic.TcCoe
open Cert.KernelIdeal Cert.KernelIdeal.Gen Cert.KQkv Cert.KZ Cert.Spec
open scoped BigOperators

/-- The one pattern is one. -/
theorem oneBits : FloatOps.ofBits (F := Ideal) .f32 0x3F800000#32 = 1 := by
  show Ideal.ofBits .f32 0x3F800000#32 = 1
  simp [Ideal.ofBits, Ideal.ieee, -EReal.coe_mul]
  norm_num

/-- The scale's pattern is one over the sequence length. -/
theorem scaleBits : FloatOps.ofBits (F := Ideal) .f32 0x3A000000#32 = ((1 / 2048 : ℝ) : EReal) := by
  show Ideal.ofBits .f32 0x3A000000#32 = ((1 / 2048 : ℝ) : EReal)
  simp [Ideal.ofBits, Ideal.ieee, -EReal.coe_mul]
  norm_num

/-- The mask of one head: one at the head, zero elsewhere. -/
def hot (h k : Fin 16) : EReal := if k = h then 1 else 0

/-- The comparison's bit as a number is the mask. -/
theorem hot_word (h k : Fin 16) :
    FloatOps.sitofp (F := Ideal) .f32 (BitVec.setWidth 32 (IntOp.cmpi .eq (BitVec.ofNat 32 k.val) (BitVec.ofNat 32 h.val))) = hot h k := by
  have e : (BitVec.setWidth 32 (IntOp.cmpi .eq (BitVec.ofNat 32 k.val) (BitVec.ofNat 32 h.val))).toInt = if k = h then 1 else 0 := by
    revert h k; decide
  show ((((BitVec.setWidth 32 (IntOp.cmpi .eq (BitVec.ofNat 32 k.val) (BitVec.ofNat 32 h.val))).toInt : ℤ) : ℝ) : EReal) = hot h k
  rw [e]
  unfold hot
  split <;> simp

/-- A masked sum is the entry at the head. -/
theorem sum_hot (f : Fin 16 → EReal) (h : Fin 16) : ∑ k, f k * hot h k = f h := by
  rw [Finset.sum_eq_single h (fun k _ hk => by rw [hot, if_neg hk, mul_zero]) (fun hn => absurd (Finset.mem_univ h) hn), hot, if_pos rfl, mul_one]

/-- The head of a grid point's coordinates. -/
abbrev hd (i : grid2.Coords) : Fin 16 := i 1

/-- The row mask at a lane. -/
theorem pay2_at (i : grid2.Coords) (k : Fin 16) : k2_pay2 (F := Ideal) i (ix2 (0 : Fin 1) k) = hot (hd i) k := by
  unfold k2_pay2
  refine Eq.trans ?_ (hot_word (hd i) k)
  show FloatOps.sitofp (F := Ideal) .f32 (BitVec.setWidth 32 (IntOp.cmpi .eq (iota .tc S1x16 32 [1] iota_S1x16_d1_w32 (ix2 (0 : Fin 1) k)) (BitVec.ofNat 32 (i 1).val))) = _
  rw [iota_single_apply]

/-- The queries' positions of the head. -/
theorem pay4_at (i : grid2.Coords) (x : Vec Ideal S1x1024x16 .f32) (r : Fin 1024) :
    k2_pay4 (F := Ideal) i x (ix2 r (0 : Fin 1)) = x (ix3 (0 : Fin 1) r (hd i)) := by
  unfold k2_pay4
  refine (shapeCast_apply _ _ (ix2 r (0 : Fin 1)) (ix1 r) (by
    rw [Shape.rowMajor_val_one, Shape.rowMajor_val_two]
    show r.val = r.val * 1 + 0
    omega)).trans ?_
  refine (Ideal.reduceAdd_r2_a1 _ _ _).trans ?_
  refine Eq.trans (Finset.sum_congr rfl fun k _ => ?_) (sum_hot (fun k => x (ix3 (0 : Fin 1) r k)) (hd i))
  exact congrArg₂ (fun u v : EReal => u * v) (shapeCast_1ab_ab_apply _ _ r k) ((broadcastTo_1b_ab_apply _ _ r k).trans (pay2_at i k))

/-- The keys' positions of the head. -/
theorem pay5_at (i : grid2.Coords) (x : Vec Ideal S1x16x2048 .f32) (s : Fin 2048) :
    k2_pay5 (F := Ideal) i x (ix2 (0 : Fin 1) s) = x (ix3 (0 : Fin 1) (hd i) s) := by
  unfold k2_pay5
  refine (shapeCast_a_1a_apply _ _ _ _).trans ?_
  refine (Ideal.reduceAdd_r2_a0 _ _ _).trans ?_
  refine Eq.trans (Finset.sum_congr rfl fun k _ => ?_) (sum_hot (fun k => x (ix3 (0 : Fin 1) k s)) (hd i))
  refine congrArg₂ (fun u v : EReal => u * v) (shapeCast_1ab_ab_apply _ _ k s) ?_
  refine (broadcastTo_apply _ _ (ix2 k s) (ix2 k (0 : Fin 1)) fun a => by match a with | ⟨0, _⟩ => rfl | ⟨1, _⟩ => rfl).trans ?_
  refine Eq.trans ?_ (hot_word (hd i) k)
  show FloatOps.sitofp (F := Ideal) .f32 (BitVec.setWidth 32 (IntOp.cmpi .eq (iota .tc S16x1 32 [0] iota_S16x1_d0_w32 (ix2 k (0 : Fin 1))) (BitVec.ofNat 32 (i 1).val))) = _
  rw [iota_single_apply]

/-- The softplus as the block writes it, then the inverse bandwidth. -/
theorem ib_word (l : Ideal .f32) :
    FloatOps.divf (F := Ideal) (φ := .f32) (FloatOps.ofBits .f32 0x3F800000#32)
      (FloatOps.addf (Scalar.select (FloatOps.cmpf .one (FloatOps.subf l (FloatOps.ofBits .f32 0x00000000#32)) (FloatOps.subf l (FloatOps.ofBits .f32 0x00000000#32)))
        (FloatOps.addf l (FloatOps.ofBits .f32 0x00000000#32))
        (FloatOps.addf (FloatOps.maximumf l (FloatOps.ofBits .f32 0x00000000#32))
          (FloatOps.log1p (FloatOps.exp (FloatOps.subf (FloatOps.ofBits .f32 0x00000000#32) (FloatOps.absf (FloatOps.subf l (FloatOps.ofBits .f32 0x00000000#32))))))))
        (FloatOps.ofBits .f32 0x38D1B717#32)) = ibE l := by
  rw [zeroBits, oneBits]
  rw [show FloatOps.subf (F := Ideal) (φ := .f32) l (0 : EReal) = l from sub_zero (l : EReal)]
  rw [show FloatOps.cmpf (F := Ideal) (φ := .f32) .one l l = 0#1 by show Ideal.cmp .one l l = 0#1; simp [Ideal.cmp], select_zero]
  rw [show FloatOps.subf (F := Ideal) (φ := .f32) (0 : EReal) (FloatOps.absf l) = -(max l (-l)) from zero_sub (max l (-l) : EReal)]
  rfl

/-- The inverse bandwidth of the head. -/
theorem pay3_at (i : grid2.Coords) (x : Vec Ideal S1x16 .f32) :
    k2_pay3 (F := Ideal) i x = ibE (x (ix2 (0 : Fin 1) (hd i))) := by
  unfold k2_pay3
  refine (ib_word _).trans (congrArg ibE ?_)
  unfold extractAt
  refine (shapeCast_apply _ _ _ (ix1 (0 : Fin 1)) (by
    rw [Shape.rowMajor_val_one, Shape.rowMajor_val_three]
    rfl)).trans ?_
  refine (Ideal.reduceAdd_r3_a12 _ _ _).trans ?_
  refine (Fin.sum_univ_one _).trans ?_
  refine Eq.trans (Finset.sum_congr rfl fun k _ => ?_) (sum_hot (fun k => x (ix2 (0 : Fin 1) k)) (hd i))
  refine (shapeCast_ab_1ab_apply _ _ _ _ _).trans ?_
  rw [shapeCast_self]
  exact congrArg₂ (fun u v : EReal => u * v) rfl (pay2_at i k)

/-- The block's entry at position `r` and column `d`. -/
theorem pay1_at (ib : EReal) (zq : FVec Ideal S1024x1 .f32) (zk : FVec Ideal S1x2048 .f32) (x : Vec Ideal S1x2048x128 .f32) (r : Fin 1024) (d : Fin 128) :
    k2_pay1 (F := Ideal) ib zq zk (broadcast S1024x1 ib) x (ix3 (0 : Fin 1) r d)
      = (∑ s : Fin 2048, tentE ib (zq (ix2 r (0 : Fin 1))) (zk (ix2 (0 : Fin 1) s)) * x (ix3 (0 : Fin 1) s d)) * ((1 / 2048 : ℝ) : EReal) := by
  unfold k2_pay1
  refine (shapeCast_ab_1ab_apply _ _ _ _ _).trans ?_
  refine congrArg₂ (fun u v : EReal => u * v) ?_ scaleBits
  refine (Ideal.matmul_plain_apply none _ _ _ r d).trans ?_
  rw [show (constant S1024x128 .f32 0x00000000#32 : FVec Ideal S1024x128 .f32) (ix2 r d) = (0 : EReal) from zeroBits]
  refine (zero_add _).trans (Finset.sum_congr rfl fun s _ => congrArg₂ (fun u v : EReal => u * v) ?_ (shapeCast_1ab_ab_apply _ _ s d))
  have eq : broadcastTo S1024x2048 (mulf zq (broadcast S1024x1 ib)) broadcasts_S1024x1_S1024x2048 (ix2 r s) = (zq (ix2 r (0 : Fin 1)) * ib : EReal) :=
    broadcastTo_apply _ _ (ix2 r s) (ix2 r (0 : Fin 1)) fun a => by match a with | ⟨0, _⟩ => rfl | ⟨1, _⟩ => rfl
  have ek : broadcastTo S1024x2048 (mulf zk (broadcast S1x2048 ib)) broadcasts_S1x2048_S1024x2048 (ix2 r s) = (zk (ix2 (0 : Fin 1) s) * ib : EReal) :=
    broadcastTo_1b_ab_apply _ _ r s
  show FloatOps.maximumf (F := Ideal) (φ := .f32) (FloatOps.subf (FloatOps.ofBits .f32 0x3F800000#32) (FloatOps.absf (FloatOps.subf
    (broadcastTo S1024x2048 (mulf zq (broadcast S1024x1 ib)) broadcasts_S1024x1_S1024x2048 (ix2 r s))
    (broadcastTo S1024x2048 (mulf zk (broadcast S1x2048 ib)) broadcasts_S1x2048_S1024x2048 (ix2 r s))))) (FloatOps.ofBits .f32 0x00000000#32) = _
  rw [eq, ek, zeroBits, oneBits]
  rfl

/-- The block the body leaves, at position `r` and column `d`. -/
theorem block (i : grid2.Coords) (x0 : Vec Ideal S1x1024x16 .f32) (x1 : Vec Ideal S1x16x2048 .f32) (x2 : Vec Ideal S1x2048x128 .f32)
    (x3 : Vec Ideal S1x16 .f32) (r : Fin 1024) (d : Fin 128) :
    out2_4 (F := Ideal) i x0 x1 x2 x3 (ix3 (0 : Fin 1) r d)
      = (∑ s : Fin 2048, tentE (ibE (x3 (ix2 (0 : Fin 1) (hd i)))) (x0 (ix3 (0 : Fin 1) r (hd i))) (x1 (ix3 (0 : Fin 1) (hd i) s)) * x2 (ix3 (0 : Fin 1) s d))
        * ((1 / 2048 : ℝ) : EReal) := by
  frame_out
  unfold k2_pay6
  rw [pay1_at, pay3_at, pay4_at]
  exact congrArg₂ (fun u v : EReal => u * v) (Finset.sum_congr rfl fun s _ =>
    congrArg₂ (fun u v : EReal => u * v) (congrArg (tentE _ _) (pay5_at i x1 s)) rfl) rfl

variable (V : (c : Dev nD) → (b : Ref sig .tc) → Buf (Elt Ideal) ((c : Thread nD τ).loc b)) (c : Dev nD)

/-- Point `t` is batch `t / 32`, head `t / 2 % 16` and half `t % 2` of the positions. -/
theorem idx_facts : ∀ t : Fin cfg2.N,
    (win2_0.index t (0 : Fin 3) = t.val / 32 ∧ win2_0.index t (1 : Fin 3) = t.val % 2 ∧ win2_0.index t (2 : Fin 3) = 0)
    ∧ (win2_1.index t (0 : Fin 3) = t.val / 32 ∧ win2_1.index t (1 : Fin 3) = 0 ∧ win2_1.index t (2 : Fin 3) = 0)
    ∧ (win2_2.index t (0 : Fin 3) = t.val / 32 ∧ win2_2.index t (1 : Fin 3) = 0 ∧ win2_2.index t (2 : Fin 3) = t.val / 2 % 16)
    ∧ (win2_3.index t (0 : Fin 2) = 0 ∧ win2_3.index t (1 : Fin 2) = 0)
    ∧ (win2_4.index t (0 : Fin 3) = t.val / 32 ∧ win2_4.index t (1 : Fin 3) = t.val % 2 ∧ win2_4.index t (2 : Fin 3) = t.val / 2 % 16)
    ∧ (hd (grid2.coords t)).val = t.val / 2 % 16 :=
  (by decide +kernel : ∀ t : Fin grid2.N, _)

/-- The batch of point `t`. -/
def bat (t : Fin cfg2.N) : Fin 2 := ⟨t.val / 32, by have : t.val < 64 := t.isLt; omega⟩
/-- Position `r` of the half that point `t` computes. -/
def pos (t : Fin cfg2.N) (r : Fin 1024) : Fin 2048 := ⟨t.val % 2 * 1024 + r.val, by have := r.isLt; omega⟩

/-- The queries' block of point `t`. -/
theorem iblk_q (t : Fin cfg2.N) (r : Fin 1024) (h : Fin 16) :
    iblk2 V c 0 t (ix3 (0 : Fin 1) r h) = V c main_v10_0 (ix3 (bat t) (pos t r) h) := by
  obtain ⟨⟨a0, a1, a2⟩, -⟩ := idx_facts t
  blk_simp [iblk2]
  exact congrArg (V c main_v10_0) (ext3 _ _ _ _ (by blk_simp [a0]; rfl) (by blk_simp [a1]; rfl) (by blk_simp [a2]))

/-- The keys' block of point `t`. -/
theorem iblk_k (t : Fin cfg2.N) (h : Fin 16) (s : Fin 2048) :
    iblk2 V c 1 t (ix3 (0 : Fin 1) h s) = V c main_v10_1 (ix3 (bat t) h s) := by
  obtain ⟨-, ⟨a0, a1, a2⟩, -⟩ := idx_facts t
  blk_simp [iblk2]
  exact congrArg (V c main_v10_1) (ext3 _ _ _ _ (by blk_simp [a0]; rfl) (by blk_simp [a1]) (by blk_simp [a2]))

/-- The values' block of point `t`. -/
theorem iblk_v (t : Fin cfg2.N) (s : Fin 2048) (d : Fin 128) :
    iblk2 V c 2 t (ix3 (0 : Fin 1) s d) = V c main_v12 (ix3 (bat t) s (hcol (hd (grid2.coords t)) d)) := by
  obtain ⟨-, -, ⟨a0, a1, a2⟩, -, -, e⟩ := idx_facts t
  blk_simp [iblk2]
  exact congrArg (V c main_v12) (ext3 _ _ _ _ (by blk_simp [a0]; rfl) (by blk_simp [a1]) (by
    blk_simp [a2]
    show _ = (hd (grid2.coords t)).val * 128 + d.val
    rw [e]))

/-- The log bandwidths are read whole. -/
theorem iblk_l (t : Fin cfg2.N) : iblk2 V c 3 t = V c main_v11 := by
  obtain ⟨-, -, -, ⟨a0, a1⟩, -⟩ := idx_facts t
  funext j
  blk_simp [iblk2]
  exact congrArg (V c main_v11) (funext fun a => Fin.ext (by match a with | ⟨0, _⟩ => blk_simp [a0] | ⟨1, _⟩ => blk_simp [a1]))

/-- The head of a column, and its place in the head. -/
def chead (e : Fin 2048) : Fin 16 := ⟨e.val / 128, by omega⟩
def cdim (e : Fin 2048) : Fin 128 := ⟨e.val % 128, by omega⟩

/-- One entry of the result, from the arrays the region reads. -/
def entry (zq : S2x2048x16.Idx → EReal) (zk : S2x16x2048.Idx → EReal) (v : S2x2048x2048.Idx → EReal) (lb : S1x16.Idx → EReal)
    (n : Fin 2) (t e : Fin 2048) : EReal :=
  outE (rd3 zq) (fun n s h => zk (ix3 n h s)) (rd3 v) (fun h => lb (ix2 (0 : Fin 1) h)) n t (chead e) (cdim e)

/-- The result array ends holding every entry. -/
theorem out_eq : (dat2 V c).arrAt 4 cfg2.N = fun i : S2x2048x2048.Idx =>
    entry (V c main_v10_0) (V c main_v10_1) (V c main_v12) (V c main_v11) (i 0) (i 1) (i 2) := by
  refine (dat2 V c).arrAt_eq_of_covers 4 _ (by decide +kernel) fun t hf y => ?_
  obtain ⟨-, -, -, -, ⟨a0, a1, a2⟩, e⟩ := idx_facts t
  blk_simp
  rw [after2_4, iblk_l]
  obtain ⟨u, r, d, rfl⟩ : ∃ (u : Fin 1) (r : Fin 1024) (d : Fin 128), y = ix3 u r d := ⟨y 0, y 1, y 2, ValueIdx.eq_ix3 y⟩
  obtain rfl : u = 0 := Subsingleton.elim _ _
  rw [block]
  rw [show (win2_4.blk t).view.emb (ix3 (0 : Fin 1) r d) = ix3 (bat t) (pos t r) (hcol (hd (grid2.coords t)) d) from
    ext3 _ _ _ _ (by blk_simp [a0]; rfl) (by blk_simp [a1]; rfl) (by
      blk_simp [a2]
      show _ = (hd (grid2.coords t)).val * 128 + d.val
      rw [e])]
  have e1 : chead (hcol (hd (grid2.coords t)) d) = hd (grid2.coords t) := Fin.ext (by
    show ((hd (grid2.coords t)).val * 128 + d.val) / 128 = (hd (grid2.coords t)).val
    omega)
  have e2 : cdim (hcol (hd (grid2.coords t)) d) = d := Fin.ext (by
    show ((hd (grid2.coords t)).val * 128 + d.val) % 128 = d.val
    omega)
  show _ = outE _ _ _ _ (bat t) (pos t r) (chead (hcol (hd (grid2.coords t)) d)) (cdim (hcol (hd (grid2.coords t)) d))
  rw [e1, e2]
  refine congrArg₂ (fun u v : EReal => u * v) (Finset.sum_congr rfl fun s _ => congrArg₂ (fun u v : EReal => u * v) ?_ (iblk_v V c t s d)) rfl
  exact congrArg₂ (tentE _) (iblk_q V c t r _) (iblk_k V c t _ s)

end Cert.KAttn

end
-- ==== Proof.KHost.lean ====
module

public import proofs.«01_k».proof.Proof.KAttn

@[expose] public section

/-! The arrays each part of the kernel reads, in terms of the arguments. -/

noncomputable section

namespace Cert.KHost

open Idealize.ShloMosaic hiding ix1 ix2 ix3 ix4
open Idealize.ShloMosaic.ValueIdx Idealize.ShloMosaic.TcCoe
open Cert.KernelIdeal Cert.KernelIdeal.Gen Cert.KQkv Cert.KZ Cert.Spec Cert.KAttn
open scoped BigOperators

variable (m : (ℓ : Loc nD τ sig) → Buf (Elt Ideal) ℓ) (ρ : Dev nD → PrngReg) (c : Dev nD)

/-- The activations flattened to rows. -/
theorem v0_eq : V1 m ρ c main_v0 = shapeCast S4096x2048 (m ((c : Thread nD τ).loc main_arg0)) shapeCasts_S2x2048x2048_S4096x2048 := by
  show StableHlo.after hostOps0 (W0 m ρ c) (Proc.devRef .tc main_v0) = _
  after_results
  rfl

/-- The weights, their cast exact. -/
theorem v1_eq : V1 m ρ c main_v1 = m ((c : Thread nD τ).loc main_arg1) := by
  show StableHlo.after hostOps0 (W0 m ρ c) (Proc.devRef .tc main_v1) = _
  after_results
  rfl

/-- The weights, their cast exact. -/
theorem v2_eq : V1 m ρ c main_v2 = m ((c : Thread nD τ).loc main_arg3) := by
  show StableHlo.after hostOps0 (W0 m ρ c) (Proc.devRef .tc main_v2) = _
  after_results
  rfl

/-- The weights, their cast exact. -/
theorem v3_eq : V1 m ρ c main_v3 = m ((c : Thread nD τ).loc main_arg5) := by
  show StableHlo.after hostOps0 (W0 m ρ c) (Proc.devRef .tc main_v3) = _
  after_results
  rfl

/-- The bias as one row. -/
theorem v4_eq : V1 m ρ c main_v4 = shapeCast S1x2048 (m ((c : Thread nD τ).loc main_arg2)) shapeCasts_S2048_S1x2048 := by
  show StableHlo.after hostOps0 (W0 m ρ c) (Proc.devRef .tc main_v4) = _
  after_results
  rfl

/-- The bias as one row. -/
theorem v5_eq : V1 m ρ c main_v5 = shapeCast S1x2048 (m ((c : Thread nD τ).loc main_arg4)) shapeCasts_S2048_S1x2048 := by
  show StableHlo.after hostOps0 (W0 m ρ c) (Proc.devRef .tc main_v5) = _
  after_results
  rfl

/-- The bias as one row. -/
theorem v6_eq : V1 m ρ c main_v6 = shapeCast S1x2048 (m ((c : Thread nD τ).loc main_arg6)) shapeCasts_S2048_S1x2048 := by
  show StableHlo.after hostOps0 (W0 m ρ c) (Proc.devRef .tc main_v6) = _
  after_results
  rfl

/-- Row `t` of batch `n` among the flattened rows. -/
def frow (n : Fin 2) (t : Fin 2048) : Fin 4096 := ⟨n.val * 2048 + t.val, by omega⟩

/-- The flattened projection at a batch's row is the projection of that row. -/
theorem rows_at (x : S2x2048x2048.Idx → EReal) (W : S2048x2048.Idx → EReal) (b : S2048.Idx → EReal) (n : Fin 2) (t e : Fin 2048) :
    rows (shapeCast S4096x2048 x shapeCasts_S2x2048x2048_S4096x2048) W (shapeCast S1x2048 b shapeCasts_S2048_S1x2048) (ix2 (frow n t) e)
      = proj (rd3 x) (rd2 W) (rd1 b) n t e := by
  refine congrArg₂ (fun u v : EReal => u + v) (Finset.sum_congr rfl fun k _ => congrArg₂ (fun u v : EReal => u * v) ?_ rfl)
    (shapeCast_a_1a_apply b _ 0 e)
  refine shapeCast_apply x _ (ix2 (frow n t) k) (ix3 n t k) ?_
  rw [Shape.rowMajor_val_three, Shape.rowMajor_val_two]
  rfl

/-- The columns of the sixteen slabs are the columns. -/
def colE : Fin 16 × Fin 128 ≃ Fin 2048 where
  toFun p := col p.1 p.2
  invFun e := (⟨e.val / 128, by omega⟩, ⟨e.val % 128, by omega⟩)
  left_inv p := by
    have h1 := p.1.isLt
    have h2 := p.2.isLt
    refine Prod.ext (Fin.ext ?_) (Fin.ext ?_)
    · show (p.1.val * 128 + p.2.val) / 128 = p.1.val
      omega
    · show (p.1.val * 128 + p.2.val) % 128 = p.2.val
      omega
  right_inv e := Fin.ext (by
    show e.val / 128 * 128 + e.val % 128 = e.val
    omega)

/-- The sum over the slabs of an array reshaped from rows `P` is the scalar projection of `P`. -/
theorem zsum_eq (X : S4096x2048.Idx → EReal) (W : S16x2048.Idx → EReal) (P : Fin 2 → Fin 2048 → Fin 2048 → EReal)
    (hP : ∀ n t e, X (ix2 (frow n t) e) = P n t e) (n : Fin 2) (t : Fin 2048) (h : Fin 16) :
    zsum (shapeCast S2x128x16x2048 X shapeCasts_S4096x2048_S2x128x16x2048) W n t h = zE P (rd2 W) n t h := by
  unfold zsum zE
  rw [← Fintype.sum_prod_type', ← Equiv.sum_comp colE]
  refine Finset.sum_congr rfl fun p _ => congrArg₂ (fun u v : EReal => u * v) ?_ rfl
  have h1 := p.1.isLt
  have h2 := p.2.isLt
  have ht := t.isLt
  have hn := n.isLt
  rw [← hP]
  refine shapeCast_apply X _ _ (ix2 (frow n (zrow t (colE p))) (zcol t (colE p))) ?_
  rw [Shape.rowMajor_val_four, Shape.rowMajor_val_two]
  show (n.val * 2048 + (t.val % 128 * 16 + (p.1.val * 128 + p.2.val) / 128)) * 2048 + (t.val / 128 * 128 + (p.1.val * 128 + p.2.val) % 128)
    = ((n.val * 128 + t.val % 128) * 16 + p.1.val) * 2048 + (t.val / 128 * 128 + p.2.val)
  omega

/-- The queries' rows regrouped in blocks. -/
theorem v8_eq : V3 m ρ c main_v8 = shapeCast S2x128x16x2048 (rows (V1 m ρ c main_v0) (V1 m ρ c main_v1) (V1 m ρ c main_v4))
    shapeCasts_S4096x2048_S2x128x16x2048 := by
  rw [← q_eq]
  refine Eq.trans ?_ (congrArg (fun x => shapeCast S2x128x16x2048 x shapeCasts_S4096x2048_S2x128x16x2048) (W2_arr m ρ c 7))
  show StableHlo.after hostOps1 (W2 m ρ c) (Proc.devRef .tc main_v8) = _
  after_results
  rfl

/-- The keys' rows regrouped in blocks. -/
theorem v9_eq : V3 m ρ c main_v9 = shapeCast S2x128x16x2048 (rows (V1 m ρ c main_v0) (V1 m ρ c main_v2) (V1 m ρ c main_v5))
    shapeCasts_S4096x2048_S2x128x16x2048 := by
  rw [← k_eq]
  refine Eq.trans ?_ (congrArg (fun x => shapeCast S2x128x16x2048 x shapeCasts_S4096x2048_S2x128x16x2048) (W2_arr m ρ c 8))
  show StableHlo.after hostOps1 (W2 m ρ c) (Proc.devRef .tc main_v9) = _
  after_results
  rfl

/-- The values' rows regrouped by batch. -/
theorem v12_eq : V5 m ρ c main_v12 = shapeCast S2x2048x2048 (rows (V1 m ρ c main_v0) (V1 m ρ c main_v3) (V1 m ρ c main_v6))
    shapeCasts_S4096x2048_S2x2048x2048 := by
  rw [← KQkv.v_eq]
  refine Eq.trans ?_ (congrArg (fun x => shapeCast S2x2048x2048 x shapeCasts_S4096x2048_S2x2048x2048)
    (((W4_of m ρ c main_v7_2 (by decide)).trans (W3_of m ρ c main_v7_2 (by decide))).trans (W2_arr m ρ c 9)))
  show StableHlo.after hostOps2 (W4 m ρ c) (Proc.devRef .tc main_v12) = _
  after_results
  rfl

/-- The log bandwidths as one row. -/
theorem v11_eq : V5 m ρ c main_v11 = shapeCast S1x16 (m ((c : Thread nD τ).loc main_arg8)) shapeCasts_S16_S1x16 := by
  refine Eq.trans ?_ (congrArg (fun x => shapeCast S1x16 x shapeCasts_S16_S1x16) (W4_args m ρ c main_arg8 (by decide)))
  show StableHlo.after hostOps2 (W4 m ρ c) (Proc.devRef .tc main_v11) = _
  after_results
  rfl

/-- The scalar weights reach the second part as launched. -/
theorem arg7_eq : V3 m ρ c main_arg7 = m ((c : Thread nD τ).loc main_arg7) := W3_args m ρ c main_arg7 (by decide)

/-- The queries' scalar projections reach the attention as the second part left them. -/
theorem v10_0_eq : V5 m ρ c main_v10_0 = fun i : S2x2048x16.Idx => zsum (V3 m ρ c main_v8) (V3 m ρ c main_arg7) (i 0) (i 1) (i 2) := by
  rw [← qp_eq]
  exact (W5_of m ρ c main_v10_0 (by decide)).trans (W4_arr m ρ c 3)

/-- The keys' scalar projections reach the attention as the second part left them. -/
theorem v10_1_eq : V5 m ρ c main_v10_1 = fun i : S2x16x2048.Idx => zsum (V3 m ρ c main_v9) (V3 m ρ c main_arg7) (i 0) (i 2) (i 1) := by
  rw [← kp_eq]
  exact (W5_of m ρ c main_v10_1 (by decide)).trans (W4_arr m ρ c 4)

/-- An argument array on core `c`, as launched. -/
abbrev arg (b : Ref sig .tc) : Buf (Elt Ideal) ((c : Thread nD τ).loc b) := m ((c : Thread nD τ).loc b)

/-- The kernel's result in terms of its arguments. -/
theorem v13_at (n : Fin 2) (t : Fin 2048) (h : Fin 16) (d : Fin 128) :
    W6 m ρ c (Proc.devRef .tc main_v13) (ix3 n t (hcol h d))
      = outE (zE (proj (rd3 (arg m c main_arg0)) (rd2 (arg m c main_arg1)) (rd1 (arg m c main_arg2))) (rd2 (arg m c main_arg7)))
          (zE (proj (rd3 (arg m c main_arg0)) (rd2 (arg m c main_arg3)) (rd1 (arg m c main_arg4))) (rd2 (arg m c main_arg7)))
          (proj (rd3 (arg m c main_arg0)) (rd2 (arg m c main_arg5)) (rd1 (arg m c main_arg6))) (rd1 (arg m c main_arg8)) n t h d := by
  have e1 : chead (hcol h d) = h := Fin.ext (by
    show (h.val * 128 + d.val) / 128 = h.val
    omega)
  have e2 : cdim (hcol h d) = d := Fin.ext (by
    show (h.val * 128 + d.val) % 128 = d.val
    omega)
  have hout := (W6_arr m ρ c 4).trans (out_eq (V5 m ρ) c)
  refine (congrFun hout (ix3 n t (hcol h d))).trans ?_
  show entry _ _ _ _ n t (hcol h d) = _
  unfold entry
  rw [e1, e2, v10_0_eq, v10_1_eq, v12_eq, v11_eq, v8_eq, v9_eq, arg7_eq, v0_eq, v1_eq, v2_eq, v3_eq, v4_eq, v5_eq, v6_eq]
  have hq := fun n t h => zsum_eq _ (arg m c main_arg7) _ (rows_at (arg m c main_arg0) (arg m c main_arg1) (arg m c main_arg2)) n t h
  have hk := fun n t h => zsum_eq _ (arg m c main_arg7) _ (rows_at (arg m c main_arg0) (arg m c main_arg3) (arg m c main_arg4)) n t h
  have hv : ∀ n t e, shapeCast S2x2048x2048 (rows (shapeCast S4096x2048 (arg m c main_arg0) shapeCasts_S2x2048x2048_S4096x2048) (arg m c main_arg5)
      (shapeCast S1x2048 (arg m c main_arg6) shapeCasts_S2048_S1x2048)) shapeCasts_S4096x2048_S2x2048x2048 (ix3 n t e)
      = proj (rd3 (arg m c main_arg0)) (rd2 (arg m c main_arg5)) (rd1 (arg m c main_arg6)) n t e := fun n t e => by
    rw [← rows_at]
    refine shapeCast_apply _ _ (ix3 n t e) (ix2 (frow n t) e) ?_
    rw [Shape.rowMajor_val_three, Shape.rowMajor_val_two]
    rfl
  unfold outE
  refine congrArg₂ (fun u v : EReal => u * v) (Finset.sum_congr rfl fun s _ => congrArg₂ (fun u v : EReal => u * v) ?_ (hv n s (hcol h d))) rfl
  refine Eq.trans (congrArg₂ (tentE _) (hq n t h) (hk n s h)) ?_
  exact congrArg (fun l => tentE (ibE l) _ _) (shapeCast_a_1a_apply (arg m c main_arg8) _ 0 h)

end Cert.KHost

end
-- ==== Proof.KRun.lean ====
module

public import proofs.«01_k».proof.Proof.Gen.KernelIdeal.Frame
public import Idealize.ShloMosaic.PureOps.Ideal

@[expose] public section

/-! What a run of the kernel leaves in its arrays: the values of the last stretch, whole. -/

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

/-- The resources the proof of a run owns. -/
abbrev Res : Type := MT nD τ sig Unit (Elt Ideal) ℕ (UR sig nD τ) ℕ

/-- The tokens the three regions start from. -/
abbrev toks := initOf (Pipeline.cells cfgs cellOf_inj) (Pipeline.launchToks cfgs cellOf_inj)

set_option backward.isDefEq.respectTransparency.types false in
/-- Every run ends, and every array that no region scopes ends with the contents the last host stretch gives it. -/
theorem arrays : θ_run defs (onTc (τ := τ) (main (F := Ideal))) ⟨m, fun _ => 0, ρ⟩ (fun r =>
    ∀ c : Dev nD, ∀ b ∈ Pipeline.ucRefs τ sig, r.2.mem ((c : Thread nD τ).1, b) = W6 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := toks)
    (hu₀ := by
      iintro Hu; imodintro
      isplitl [Hu]
      · iapply (show (ownU toks : sProp Res) ⊢ BI.own (emb₁ toks) from .rfl)
        iexact Hu
      iapply (show (BI.emp : sProp Res) ⊢ bigSep Finset.univ (fun _ : Dev nD => (BI.emp : sProp Res)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W6 m ρ c b)
    (hfin := fun c s' => by
      iintro ⟨⟨Hh, -⟩, HSI⟩
      unfold StableHlo.held
      imodintro
      iapply (pointsTo_read_all (Pipeline.ucRefs τ sig) (fun b => ((c : Thread nD τ).1, b)) (W6 m ρ c) s')
      isplitl [Hh] <;> iassumption)
    (hQ := fun _ h _ => h)

/-- Every run ends with the result array as the last host stretch computes it and the nine arguments as launched. -/
theorem result : θ_run defs (onTc (τ := τ) (main (F := Ideal))) ⟨m, fun _ => 0, ρ⟩ (fun r => ∀ c : Dev nD,
      r.2.mem ((c : Thread nD τ).loc main_v13) = W6 m ρ c (Proc.devRef .tc main_v13)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)) :=
  (θ_run defs _ _).mono (fun _ h c =>
    ⟨h c _ (mem_uc main_v13 (by decide)),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c),
     (h c _ (mem_uc main_arg7 (by decide))).trans (W6_main_arg7 m ρ c),
     (h c _ (mem_uc main_arg8 (by decide))).trans (W6_main_arg8 m ρ c)⟩) (arrays m ρ)

end Cert.KRun

end
-- ==== Proof.RefLine.lean ====
module

public import proofs.«01_k».proof.Proof.Gen.ReferenceIdeal.Read
public import proofs.«01_k».proof.Proof.Spec

@[expose] public section

/-! The reference's linear layers, its projections to the line, and the joined positions and values. -/

noncomputable section

namespace Cert.RefLine

open Cert.ReferenceIdeal Cert.ReferenceIdeal.Gen Cert.ReferenceIdeal.Read Cert.Spec
open Idealize.ShloMosaic Idealize.ShloMosaic.ValueIdx
open scoped BigOperators

/-- The arguments' arrays. -/
abbrev A3 : Type := (⟨S2x2048x2048, .f32⟩ : BufTy).Contents (Elt Ideal)
abbrev A2 : Type := (⟨S2048x2048, .f32⟩ : BufTy).Contents (Elt Ideal)
abbrev A1 : Type := (⟨S2048, .f32⟩ : BufTy).Contents (Elt Ideal)
abbrev AP : Type := (⟨S16x2048, .f32⟩ : BufTy).Contents (Elt Ideal)

/-- The first linear layer's entry. -/
theorem v4_at (x0 : A3) (x1 : A2) (x2 : A1) (n : Fin 2) (t e : Fin 2048) :
    val_main_v4 (F := Ideal) x0 x1 x2 (ix3 n t e) = proj (rd3 x0) (rd2 x1) (rd1 x2) n t e := by
  rw [val_main_v4_apply, val_main_v1_apply, val_main_v3_apply, val_main_v2_apply, Ideal.addf_def]
  refine congrArg₂ (· + ·) (Finset.sum_congr rfl fun k _ => ?_) (congrArg x2 (funext fun a => match a with | ⟨0, _⟩ => rfl))
  rw [val_main_v0_apply]
  exact congrArg₂ (· * ·) (congrArg x0 (funext fun a => match a with | ⟨0, _⟩ => rfl | ⟨1, _⟩ => rfl | ⟨2, _⟩ => rfl))
    (congrArg x1 (funext fun a => match a with | ⟨0, _⟩ => rfl | ⟨1, _⟩ => rfl))

/-- The second linear layer is the first one's function of its own weights. -/
theorem v11_at (x0 : A3) (x3 : A2) (x4 : A1) (n : Fin 2) (t e : Fin 2048) :
    val_main_v11 (F := Ideal) x0 x3 x4 (ix3 n t e) = proj (rd3 x0) (rd2 x3) (rd1 x4) n t e := v4_at x0 x3 x4 n t e

/-- So is the third. -/
theorem v18_at (x0 : A3) (x5 : A2) (x6 : A1) (n : Fin 2) (t e : Fin 2048) :
    val_main_v18 (F := Ideal) x0 x5 x6 (ix3 n t e) = proj (rd3 x0) (rd2 x5) (rd1 x6) n t e := v4_at x0 x5 x6 n t e

/-- The heads of the third layer: head `h`'s column `d` is column `128 h + d`. -/
theorem v20_at (x0 : A3) (x5 : A2) (x6 : A1) (n : Fin 2) (h : Fin 16) (t : Fin 2048) (d : Fin 128) :
    val_main_v20 (F := Ideal) x0 x5 x6 (ix4 n h t d) = proj (rd3 x0) (rd2 x5) (rd1 x6) n t (hcol h d) := by
  rw [val_main_v20_apply, val_main_v19_apply, ← v18_at]
  congr 1
  funext a
  have h0 := n.isLt
  have h1 := t.isLt
  have h2 := h.isLt
  have h3 := d.isLt
  match a with
  | ⟨0, _⟩ => exact Fin.ext (by show (((n.val * 2048 + t.val) * 16 + h.val) * 128 + d.val) / 4194304 = n.val; omega)
  | ⟨1, _⟩ => exact Fin.ext (by show (((n.val * 2048 + t.val) * 16 + h.val) * 128 + d.val) / 2048 % 2048 = t.val; omega)
  | ⟨2, _⟩ => exact Fin.ext (by show (((n.val * 2048 + t.val) * 16 + h.val) * 128 + d.val) % 2048 = h.val * 128 + d.val; omega)

/-- The first layer regrouped: position `(t, e)` reads row `(t mod 128) 16 + e / 128` and column `(t / 128) 128 + e mod 128`. -/
theorem v21_at (x0 : A3) (x1 : A2) (x2 : A1) (n : Fin 2) (t e : Fin 2048) :
    val_main_v21 (F := Ideal) x0 x1 x2 (ix3 n t e) = proj (rd3 x0) (rd2 x1) (rd1 x2) n (zrow t e) (zcol t e) := by
  have h0 := n.isLt
  have h1 := t.isLt
  have h2 := e.isLt
  have e1 : idx_main_v21 (ix3 n t e) = ix4 n ⟨t.val / 128, by omega⟩ (zrow t e) ⟨e.val % 128, by omega⟩ := by
    funext a
    match a with
    | ⟨0, _⟩ => exact Fin.ext (by show ((n.val * 2048 + t.val) * 2048 + e.val) / 4194304 = n.val; omega)
    | ⟨1, _⟩ => exact Fin.ext (by show ((n.val * 2048 + t.val) * 2048 + e.val) / 262144 % 16 = t.val / 128; omega)
    | ⟨2, _⟩ => exact Fin.ext (by show ((n.val * 2048 + t.val) * 2048 + e.val) / 128 % 2048 = (t.val % 128) * 16 + e.val / 128; omega)
    | ⟨3, _⟩ => exact Fin.ext (by show ((n.val * 2048 + t.val) * 2048 + e.val) % 128 = e.val % 128; omega)
  rw [val_main_v21_apply, e1]
  exact v20_at x0 x1 x2 n _ _ _

/-- The queries' positions on the line. -/
theorem v23_at (x0 : A3) (x1 : A2) (x2 : A1) (x7 : AP) (n : Fin 2) (t : Fin 2048) (h : Fin 16) :
    val_main_v23 (F := Ideal) x0 x1 x2 x7 (ix3 n t h) = zE (proj (rd3 x0) (rd2 x1) (rd1 x2)) (rd2 x7) n t h := by
  rw [val_main_v23_apply]
  refine Finset.sum_congr rfl fun k _ => ?_
  rw [val_main_v22_apply, show lidx_main_v23 (ix3 n t h) k = ix3 n t k from
    funext fun a => match a with | ⟨0, _⟩ => rfl | ⟨1, _⟩ => rfl | ⟨2, _⟩ => rfl, v21_at]
  exact congrArg₂ (· * ·) rfl (congrArg x7 (funext fun a => match a with | ⟨0, _⟩ => rfl | ⟨1, _⟩ => rfl))

/-- The keys' positions on the line are the same function of the keys' layer. -/
theorem v26_at (x0 : A3) (x3 : A2) (x4 : A1) (x7 : AP) (n : Fin 2) (t : Fin 2048) (h : Fin 16) :
    val_main_v26 (F := Ideal) x0 x3 x4 x7 (ix3 n t h) = zE (proj (rd3 x0) (rd2 x3) (rd1 x4)) (rd2 x7) n t h :=
  v23_at x0 x3 x4 x7 n t h

/-- The zero pattern is zero. -/
theorem zeroBits : FloatOps.ofBits (F := Ideal) .f32 0x00000000#32 = 0 := by
  simp [Ideal.ofBits, Ideal.ieee]

/-- Keys then queries, as one family over 4096 places. -/
def joined (zk zq : Fin 2048 → EReal) (p : Fin 4096) : EReal :=
  if h : p.val < 2048 then zk ⟨p.val, h⟩ else zq ⟨p.val - 2048, by omega⟩

/-- The joined positions: the keys' in the first 2048 places, the queries' in the rest. -/
theorem v30_at (x0 : A3) (x1 : A2) (x2 : A1) (x3 : A2) (x4 : A1) (x7 : AP) (n : Fin 2) (h : Fin 16) (p : Fin 4096) :
    val_main_v30 (F := Ideal) x0 x1 x2 x3 x4 x7 (ix3 n h p)
      = joined (fun t => zE (proj (rd3 x0) (rd2 x3) (rd1 x4)) (rd2 x7) n t h)
          (fun t => zE (proj (rd3 x0) (rd2 x1) (rd1 x2)) (rd2 x7) n t h) p := by
  have h0 := n.isLt
  have h1 := h.isLt
  have h2 := p.isLt
  have e1 : idx_main_v28 (idx_main_v29 (idx_main_v30 (ix3 n h p))) = ix3 n p h := by
    have f1 : idx_main_v30 (ix3 n h p) = ix4 n h p 0 := by
      funext a
      match a with
      | ⟨0, _⟩ => exact Fin.ext (by show ((n.val * 16 + h.val) * 4096 + p.val) / 65536 = n.val; omega)
      | ⟨1, _⟩ => exact Fin.ext (by show ((n.val * 16 + h.val) * 4096 + p.val) / 4096 % 16 = h.val; omega)
      | ⟨2, _⟩ => exact Fin.ext (by show ((n.val * 16 + h.val) * 4096 + p.val) / 1 % 4096 = p.val; omega)
      | ⟨3, _⟩ => rfl
    rw [f1]
    funext a
    match a with
    | ⟨0, _⟩ => exact Fin.ext (by show (((n.val * 4096 + p.val) * 16 + h.val) * 1 + 0) / 65536 = n.val; omega)
    | ⟨1, _⟩ => exact Fin.ext (by show (((n.val * 4096 + p.val) * 16 + h.val) * 1 + 0) / 16 % 4096 = p.val; omega)
    | ⟨2, _⟩ => exact Fin.ext (by show (((n.val * 4096 + p.val) * 16 + h.val) * 1 + 0) % 16 = h.val; omega)
  rw [val_main_v30_apply, val_main_v29_apply, val_main_v28_apply, e1]
  unfold val_main_v27 joined
  by_cases hp : p.val < 2048
  · rw [dif_pos hp]
    beta_reduce
    rw [← v26_at]
    exact concatenate_pair_apply_left (t := S2x4096x16) (s₁ := S2x2048x16) (s₂ := S2x2048x16) 1 _ _ _ (ix3 n p h) rfl (ix3 n ⟨p.val, hp⟩ h)
      (fun b => match b with | ⟨0, _⟩ => rfl | ⟨1, _⟩ => rfl | ⟨2, _⟩ => rfl)
  · rw [dif_neg hp]
    beta_reduce
    rw [← v23_at]
    exact concatenate_pair_apply_right (t := S2x4096x16) (s₁ := S2x2048x16) (s₂ := S2x2048x16) 1 _ _ _ (ix3 n p h) rfl rfl
      (ix3 n ⟨p.val - 2048, by omega⟩ h)
      (fun b hb => match b, hb with | ⟨0, _⟩, _ => rfl | ⟨1, _⟩, hb => absurd rfl hb | ⟨2, _⟩, _ => rfl)
      (show p.val - 2048 + 2048 = p.val by omega)

/-- The joined values: head `h`'s of the third layer in the first 2048 places, zero in the rest. -/
theorem v35_at (x0 : A3) (x5 : A2) (x6 : A1) (n : Fin 2) (h : Fin 16) (p : Fin 4096) (d : Fin 128) :
    val_main_v35 (F := Ideal) x0 x5 x6 (ix4 n h p d)
      = joined (fun t => proj (rd3 x0) (rd2 x5) (rd1 x6) n t (hcol h d)) (fun _ => 0) p := by
  unfold val_main_v35 joined
  by_cases hp : p.val < 2048
  · rw [dif_pos hp]
    beta_reduce
    rw [← v20_at]
    exact concatenate_pair_apply_left (t := S2x16x4096x128) (s₁ := S2x16x2048x128) (s₂ := S2x16x2048x128) 2 _ _ _ (ix4 n h p d) rfl
      (ix4 n h ⟨p.val, hp⟩ d) (fun b => match b with | ⟨0, _⟩ => rfl | ⟨1, _⟩ => rfl | ⟨2, _⟩ => rfl | ⟨3, _⟩ => rfl)
  · rw [dif_neg hp]
    refine (concatenate_pair_apply_right (t := S2x16x4096x128) (s₁ := S2x16x2048x128) (s₂ := S2x16x2048x128) 2 _ _ _ (ix4 n h p d) rfl rfl
      (ix4 n h ⟨p.val - 2048, by omega⟩ d)
      (fun b hb => match b, hb with | ⟨0, _⟩, _ => rfl | ⟨1, _⟩, _ => rfl | ⟨2, _⟩, hb => absurd rfl hb | ⟨3, _⟩, _ => rfl)
      (show p.val - 2048 + 2048 = p.val by omega)).trans ?_
    rw [val_main_v34_apply]
    exact zeroBits

end Cert.RefLine
-- ==== Proof.HostReads.lean ====
module

public import Idealize.ShloMosaic.PureOps
public import Idealize.ShloMosaic.PureOps.Ideal
public import Idealize.ShloMosaic.Lib.ValueIdxCore
public import Idealize.ShloMosaic.Lib.ReduceAll
public import Idealize.ShloMosaic.Lib.SortFacts
public import Idealize.ShloMosaic.Lib.StableHlo.Predicate
public import Mathlib.Algebra.BigOperators.Fin
public import Mathlib.Order.Fin.Basic

@[expose] public section

/-! Host operations read at an index: batched element gathers, counts along the last axis, running sums along the
middle axis, and the words of small naturals. -/

noncomputable section

namespace Cert.HostReads

open Idealize.ShloMosaic Idealize.ShloMosaic.ValueIdx
open scoped BigOperators

/-! ## Words of small naturals -/

/-- A natural below 2³¹ read signed off its word is itself. -/
theorem toInt_ofNat (n : ℕ) (h : n < 2 ^ 31) : (BitVec.ofNat 32 n).toInt = n := by
  rw [BitVec.toInt_eq_toNat_of_lt (by rw [BitVec.toNat_ofNat]; omega), BitVec.toNat_ofNat]
  omega

/-- A small natural's word is not negative, so the wrapping select keeps it. -/
theorem wrap_word (n : ℕ) (h : n < 2 ^ 31) (w : BitVec 32) :
    Scalar.select (IntOp.cmpi .slt (BitVec.ofNat 32 n) 0#32) w (BitVec.ofNat 32 n) = BitVec.ofNat 32 n := by
  have : IntOp.cmpi .slt (BitVec.ofNat 32 n) 0#32 = 0#1 := by
    apply eq_zero_of_ne_one
    simp only [IntOp.cmpi, StableHlo.Predicate.ofBool_eq_one_iff, BitVec.slt, toInt_ofNat n h]
    simp
  rw [this, select_zero]

/-- A natural at most `m` passes the bounds test "at least zero and at most m". -/
theorem bounds_word (n m : ℕ) (hnm : n ≤ m) (h : m < 2 ^ 31) :
    IntOp.andi (IntOp.cmpi .sge (BitVec.ofNat 32 n) 0#32) (IntOp.cmpi .sle (BitVec.ofNat 32 n) (BitVec.ofNat 32 m)) = 1#1 := by
  have h1 : IntOp.cmpi .sge (BitVec.ofNat 32 n) 0#32 = 1#1 := by
    simp only [IntOp.cmpi, StableHlo.Predicate.ofBool_eq_one_iff, BitVec.sle, toInt_ofNat n (by omega)]
    simp
  have h2 : IntOp.cmpi .sle (BitVec.ofNat 32 n) (BitVec.ofNat 32 m) = 1#1 := by
    simp only [IntOp.cmpi, StableHlo.Predicate.ofBool_eq_one_iff, BitVec.sle, toInt_ofNat n (by omega), toInt_ofNat m h]
    simpa using hnm
  rw [h1, h2]; rfl

/-! ## Gathers of one element per result element -/

section Gathers
variable {α : Type}

/-- Dimension numbers of an element gather along the last of three axes. -/
abbrev lastDims (A B N P : ℕ)
    (wf : GatherDims.WF ⟨3, ![A, B, N]⟩ ⟨4, ![A, B, P, 1]⟩ ⟨3, ![A, B, P]⟩ [] [2] [0, 1] [2] [0, 1] 3 ![1, 1, 1]) :
    GatherDims ⟨3, ![A, B, N]⟩ ⟨4, ![A, B, P, 1]⟩ ⟨3, ![A, B, P]⟩ where
  offsetDims := []
  collapsedSliceDims := [2]
  operandBatchingDims := [0, 1]
  startIndicesBatchingDims := [0, 1]
  startIndexMap := [2]
  indexVectorDim := 3
  sliceSizes := ![1, 1, 1]
  wf := wf

/-- Along the last of three axes, the element at `(a, b, p)` is the operand's at the position its start word holds. -/
theorem gather_last {A B N P : ℕ}
    (wf : GatherDims.WF ⟨3, ![A, B, N]⟩ ⟨4, ![A, B, P, 1]⟩ ⟨3, ![A, B, P]⟩ [] [2] [0, 1] [2] [0, 1] 3 ![1, 1, 1])
    (x : (⟨3, ![A, B, N]⟩ : Shape).Idx → α) (idx : IVec ⟨4, ![A, B, P, 1]⟩ 32) (a : Fin A) (b : Fin B) (p : Fin P)
    (n : Fin N) (hN : N < 2 ^ 31) (hn : idx (ix4 a b p 0) = BitVec.ofNat 32 n.val) :
    Host.gather (lastDims A B N P wf) x idx (ix3 a b p) = x (ix3 a b n) := by
  have hnl := n.isLt
  unfold Host.gather
  congr 1
  funext c
  refine Fin.ext ?_
  show (lastDims A B N P wf).start (ix3 a b p) idx c + (lastDims A B N P wf).batchCoord (ix3 a b p) c
      + (lastDims A B N P wf).offCoord (ix3 a b p) c = _
  match c with
  | ⟨0, _⟩ =>
    rw [GatherDims.start_batching _ _ _ _ (by simp),
      GatherDims.offCoord_eq_zero _ _ _ (fun h => ((GatherDims.mem_sKept _ _).mp h).2 (by simp))]
    unfold GatherDims.batchCoord
    rw [dif_pos (by simp)]
    exact (Nat.add_zero _).trans (Nat.zero_add _)
  | ⟨1, _⟩ =>
    rw [GatherDims.start_batching _ _ _ _ (by simp),
      GatherDims.offCoord_eq_zero _ _ _ (fun h => ((GatherDims.mem_sKept _ _).mp h).2 (by simp))]
    unfold GatherDims.batchCoord
    rw [dif_pos (by simp)]
    exact (Nat.add_zero _).trans (Nat.zero_add _)
  | ⟨2, _⟩ =>
    rw [GatherDims.batchCoord_eq_zero _ _ _ (by simp),
      GatherDims.offCoord_eq_zero _ _ _ (fun h => ((GatherDims.mem_sKept _ _).mp h).1 (by simp))]
    unfold GatherDims.start
    rw [dif_pos (by simp)]
    have hsi : ∀ q, (lastDims A B N P wf).siIdx (ix3 a b p) q = ix4 a b p 0 := by
      intro q
      funext e; refine Fin.ext ?_
      match e with
      | ⟨0, _⟩ => rfl
      | ⟨1, _⟩ => rfl
      | ⟨2, _⟩ => rfl
      | ⟨3, _⟩ =>
        have : q.val < 1 := q.isLt
        show q.val = 0
        omega
    rw [hsi, hn, toInt_ofNat _ (by omega)]
    show min n.val (N - 1) + 0 + 0 = n.val
    omega

/-- Dimension numbers of an element gather along the third of four axes. -/
abbrev thirdDims (A B N P D : ℕ)
    (wf : GatherDims.WF ⟨4, ![A, B, N, D]⟩ ⟨5, ![A, B, P, D, 1]⟩ ⟨4, ![A, B, P, D]⟩ [] [2] [0, 1, 3] [2] [0, 1, 3] 4 ![1, 1, 1, 1]) :
    GatherDims ⟨4, ![A, B, N, D]⟩ ⟨5, ![A, B, P, D, 1]⟩ ⟨4, ![A, B, P, D]⟩ where
  offsetDims := []
  collapsedSliceDims := [2]
  operandBatchingDims := [0, 1, 3]
  startIndicesBatchingDims := [0, 1, 3]
  startIndexMap := [2]
  indexVectorDim := 4
  sliceSizes := ![1, 1, 1, 1]
  wf := wf

/-- Along the third of four axes, the element at `(a, b, p, d)` is the operand's at the position its start word holds. -/
theorem gather_third {A B N P D : ℕ}
    (wf : GatherDims.WF ⟨4, ![A, B, N, D]⟩ ⟨5, ![A, B, P, D, 1]⟩ ⟨4, ![A, B, P, D]⟩ [] [2] [0, 1, 3] [2] [0, 1, 3] 4 ![1, 1, 1, 1])
    (x : (⟨4, ![A, B, N, D]⟩ : Shape).Idx → α) (idx : IVec ⟨5, ![A, B, P, D, 1]⟩ 32) (a : Fin A) (b : Fin B) (p : Fin P) (d : Fin D)
    (n : Fin N) (hN : N < 2 ^ 31) (hn : idx (ix5 a b p d 0) = BitVec.ofNat 32 n.val) :
    Host.gather (thirdDims A B N P D wf) x idx (ix4 a b p d) = x (ix4 a b n d) := by
  have hnl := n.isLt
  unfold Host.gather
  congr 1
  funext c
  refine Fin.ext ?_
  show (thirdDims A B N P D wf).start (ix4 a b p d) idx c + (thirdDims A B N P D wf).batchCoord (ix4 a b p d) c
      + (thirdDims A B N P D wf).offCoord (ix4 a b p d) c = _
  by_cases hc : c ∈ ([0, 1, 3] : List (Fin 4))
  · rw [GatherDims.start_batching _ _ _ _ hc,
      GatherDims.offCoord_eq_zero _ _ _ (fun h => ((GatherDims.mem_sKept _ _).mp h).2 hc)]
    unfold GatherDims.batchCoord
    rw [dif_pos hc]
    match c, hc with
    | ⟨0, _⟩, _ => exact (Nat.add_zero _).trans (Nat.zero_add _)
    | ⟨1, _⟩, _ => exact (Nat.add_zero _).trans (Nat.zero_add _)
    | ⟨3, _⟩, _ => exact (Nat.add_zero _).trans (Nat.zero_add _)
    | ⟨2, _⟩, h => exact absurd h (by simp)
  · obtain rfl : c = 2 := by
      match c, hc with
      | ⟨0, _⟩, h => exact absurd (by simp) h
      | ⟨1, _⟩, h => exact absurd (by simp) h
      | ⟨3, _⟩, h => exact absurd (by simp) h
      | ⟨2, _⟩, _ => rfl
    rw [GatherDims.batchCoord_eq_zero _ _ _ hc,
      GatherDims.offCoord_eq_zero _ _ _ (fun h => ((GatherDims.mem_sKept _ _).mp h).1 (by simp))]
    unfold GatherDims.start
    rw [dif_pos (by simp)]
    have hsi : ∀ q, (thirdDims A B N P D wf).siIdx (ix4 a b p d) q = ix5 a b p d 0 := by
      intro q
      funext e; refine Fin.ext ?_
      match e with
      | ⟨0, _⟩ => rfl
      | ⟨1, _⟩ => rfl
      | ⟨2, _⟩ => rfl
      | ⟨3, _⟩ => rfl
      | ⟨4, _⟩ =>
        have : q.val < 1 := q.isLt
        show q.val = 0
        omega
    rw [hsi, hn, toInt_ofNat _ (by omega)]
    show min n.val (N - 1) + 0 + 0 = n.val
    omega

/-- Dimension numbers of an element gather along the middle of three axes. -/
abbrev midDims (A N P D : ℕ)
    (wf : GatherDims.WF ⟨3, ![A, N, D]⟩ ⟨4, ![A, P, D, 1]⟩ ⟨3, ![A, P, D]⟩ [] [1] [0, 2] [1] [0, 2] 3 ![1, 1, 1]) :
    GatherDims ⟨3, ![A, N, D]⟩ ⟨4, ![A, P, D, 1]⟩ ⟨3, ![A, P, D]⟩ where
  offsetDims := []
  collapsedSliceDims := [1]
  operandBatchingDims := [0, 2]
  startIndicesBatchingDims := [0, 2]
  startIndexMap := [1]
  indexVectorDim := 3
  sliceSizes := ![1, 1, 1]
  wf := wf

/-- Along the middle of three axes, the element at `(a, p, d)` is the operand's at the position its start word holds. -/
theorem gather_mid {A N P D : ℕ}
    (wf : GatherDims.WF ⟨3, ![A, N, D]⟩ ⟨4, ![A, P, D, 1]⟩ ⟨3, ![A, P, D]⟩ [] [1] [0, 2] [1] [0, 2] 3 ![1, 1, 1])
    (x : (⟨3, ![A, N, D]⟩ : Shape).Idx → α) (idx : IVec ⟨4, ![A, P, D, 1]⟩ 32) (a : Fin A) (p : Fin P) (d : Fin D)
    (n : Fin N) (hN : N < 2 ^ 31) (hn : idx (ix4 a p d 0) = BitVec.ofNat 32 n.val) :
    Host.gather (midDims A N P D wf) x idx (ix3 a p d) = x (ix3 a n d) := by
  have hnl := n.isLt
  unfold Host.gather
  congr 1
  funext c
  refine Fin.ext ?_
  show (midDims A N P D wf).start (ix3 a p d) idx c + (midDims A N P D wf).batchCoord (ix3 a p d) c
      + (midDims A N P D wf).offCoord (ix3 a p d) c = _
  by_cases hc : c ∈ ([0, 2] : List (Fin 3))
  · rw [GatherDims.start_batching _ _ _ _ hc,
      GatherDims.offCoord_eq_zero _ _ _ (fun h => ((GatherDims.mem_sKept _ _).mp h).2 hc)]
    unfold GatherDims.batchCoord
    rw [dif_pos hc]
    match c, hc with
    | ⟨0, _⟩, _ => exact (Nat.add_zero _).trans (Nat.zero_add _)
    | ⟨2, _⟩, _ => exact (Nat.add_zero _).trans (Nat.zero_add _)
    | ⟨1, _⟩, h => exact absurd h (by simp)
  · obtain rfl : c = 1 := by
      match c, hc with
      | ⟨0, _⟩, h => exact absurd (by simp) h
      | ⟨2, _⟩, h => exact absurd (by simp) h
      | ⟨1, _⟩, _ => rfl
    rw [GatherDims.batchCoord_eq_zero _ _ _ hc,
      GatherDims.offCoord_eq_zero _ _ _ (fun h => ((GatherDims.mem_sKept _ _).mp h).1 (by simp))]
    unfold GatherDims.start
    rw [dif_pos (by simp)]
    have hsi : ∀ q, (midDims A N P D wf).siIdx (ix3 a p d) q = ix4 a p d 0 := by
      intro q
      funext e; refine Fin.ext ?_
      match e with
      | ⟨0, _⟩ => rfl
      | ⟨1, _⟩ => rfl
      | ⟨2, _⟩ => rfl
      | ⟨3, _⟩ =>
        have : q.val < 1 := q.isLt
        show q.val = 0
        omega
    rw [hsi, hn, toInt_ofNat _ (by omega)]
    show min n.val (N - 1) + 0 + 0 = n.val
    omega

end Gathers

/-! ## Counts along the last axis -/

/-- The sum of a widened mask along the last of three axes is the word of the number of set bits. -/
theorem count_last {A P N : ℕ} (hN : N < 2 ^ 32) (msk : IVec ⟨3, ![A, P, N]⟩ 1) (hw : 1 < 32)
    (h : (⟨3, ![A, P, N]⟩ : Shape).ReducesTo [2] ⟨2, ![A, P]⟩) {u : Shape} (init : IVec u 32) (hinit : ∀ i, init i = 0#32)
    (hu : 0 < u.numel) (a : Fin A) (p : Fin P) :
    Host.reduce IntOp.addi (extui 32 msk hw) init h hu (ix2 a p)
      = BitVec.ofNat 32 (Finset.univ.filter fun j : Fin N => msk (ix3 a p j) = 1#1).card := by
  classical
  have hdrop : ∀ i : (⟨3, ![A, P, N]⟩ : Shape).Idx, h.drop i = ix2 a p ↔ i 0 = a ∧ i 1 = p := by
    intro i
    have h0 : (h.drop i 0 : Nat) = i 0 := Shape.ReducesTo.drop_apply_val h i 0
    have h1 : (h.drop i 1 : Nat) = i 1 := Shape.ReducesTo.drop_apply_val h i 1
    refine ⟨fun e => ?_, fun e => ?_⟩
    · rw [e] at h0 h1
      exact ⟨Fin.ext h0.symm, Fin.ext h1.symm⟩
    · funext c
      match c with
      | ⟨0, _⟩ => exact Fin.ext (h0.trans (congrArg Fin.val e.1))
      | ⟨1, _⟩ => exact Fin.ext (h1.trans (congrArg Fin.val e.2))
  have hsum : ∑ i ∈ Finset.univ.filter (fun i : (⟨3, ![A, P, N]⟩ : Shape).Idx => h.drop i = ix2 a p), (extui 32 msk hw i).toNat
      = (Finset.univ.filter (fun j : Fin N => msk (ix3 a p j) = 1#1)).card := by
    rw [Finset.card_filter]
    symm
    refine Finset.sum_bij (fun (j : Fin N) _ => (ix3 a p j : (⟨3, ![A, P, N]⟩ : Shape).Idx))
      (fun j _ => Finset.mem_filter.2 ⟨Finset.mem_univ _, (hdrop _).2 ⟨rfl, rfl⟩⟩)
      (fun j _ k _ e => congrFun e 2) (fun i hi => ?_) (fun j _ => ?_)
    · obtain ⟨e0, e1⟩ := (hdrop i).1 (Finset.mem_filter.1 hi).2
      refine ⟨i 2, Finset.mem_univ _, ?_⟩
      rw [← e0, ← e1]
      exact (eq_ix3 i).symm
    · exact (StableHlo.Predicate.toNat_setWidth_bit _).symm
  apply BitVec.eq_of_toNat_eq
  rw [Host.reduce_eq_fold, hinit]
  have hcard : (Finset.univ.filter fun j : Fin N => msk (ix3 a p j) = 1#1).card ≤ N :=
    (Finset.card_le_univ _).trans (by simp)
  rw [StableHlo.Predicate.toNat_fold_addi _ _ (by rw [hsum]; omega), hsum, BitVec.toNat_ofNat, Nat.mod_eq_of_lt (by omega)]

/-! ## Running sums along the middle axis -/

/-- A left fold that adds is the start plus the sum. -/
theorem foldl_add {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- A sum over the indices of a `[1, N, 1]` window is a sum over its middle coordinate. -/
theorem sum_window {N : ℕ} (g : (⟨3, ![1, N, 1]⟩ : Shape).Idx → EReal) : ∑ i, g i = ∑ k : Fin N, g (ix3 0 k 0) := by
  symm
  refine Finset.sum_bij (fun (k : Fin N) _ => (ix3 0 k 0 : (⟨3, ![1, N, 1]⟩ : Shape).Idx)) (fun _ _ => Finset.mem_univ _)
    (fun j _ k _ e => congrFun e 1) (fun i _ => ⟨i 1, Finset.mem_univ _, ?_⟩) (fun _ _ => rfl)
  rw [eq_ix3 i]
  congr 1
  · exact Subsingleton.elim (α := Fin 1) _ _
  · exact Subsingleton.elim (α := Fin 1) _ _

/-- A running sum along the middle of three axes: entry `(a, p, d)` is the sum of the entries `(a, j, d)` with `j ≤ p`. -/
theorem cumsum_mid {A N M D : ℕ} (hM : M + 1 = N) (x : (⟨3, ![A, N, D]⟩ : Shape).Idx → EReal)
    (h : (⟨3, ![A, N, D]⟩ : Shape).ReduceWindows (![1, N, 1] : Fin 3 → ℕ) ![1, 1, 1] ![0, M, 0] ![0, 0, 0] ⟨3, ![A, N, D]⟩)
    (a : Fin A) (p : Fin N) (d : Fin D) :
    Ideal.hostReduceWindowAdd ![1, N, 1] ![1, 1, 1] ![0, M, 0] ![0, 0, 0] h x 0 (ix3 a p d)
      = ∑ j : Fin N, if j.val < p.val + 1 then x (ix3 a j d) else 0 := by
  subst hM
  have hp := p.isLt
  unfold Ideal.hostReduceWindowAdd Host.reduceWindow
  dsimp only
  rw [foldl_add, zero_add]
  set g : (⟨3, ![1, M + 1, 1]⟩ : Shape).Idx → EReal := fun w =>
    if hin : ∀ c : Fin 3, (![0, M, 0] : Fin 3 → ℕ) c ≤ (ix3 a p d (c.cast h.1.symm)).val * (![1, 1, 1] : Fin 3 → ℕ) c + (w c).val
        ∧ (ix3 a p d (c.cast h.1.symm)).val * (![1, 1, 1] : Fin 3 → ℕ) c + (w c).val - (![0, M, 0] : Fin 3 → ℕ) c
          < (![A, M + 1, D] : Fin 3 → ℕ) c
      then x (fun c => ⟨_, (hin c).2⟩) else 0 with hg
  have e1 : ((List.finRange (⟨3, ![1, M + 1, 1]⟩ : Shape).numel).map fun n => g ((⟨3, ![1, M + 1, 1]⟩ : Shape).rowMajor.symm n)).sum
      = ∑ i, g i := by
    rw [← Equiv.sum_comp (⟨3, ![1, M + 1, 1]⟩ : Shape).rowMajor.symm g, ← List.sum_ofFn, List.ofFn_eq_map]
  refine e1.trans ((sum_window g).trans ?_)
  have hval : ∀ k : Fin (M + 1), g (ix3 0 k 0) = if hk : M ≤ p.val + k.val then x (ix3 a ⟨p.val + k.val - M, by omega⟩ d) else 0 := by
    intro k
    have hk' := k.isLt
    have ha := a.isLt
    have hd := d.isLt
    rw [hg]
    dsimp only
    by_cases hk : M ≤ p.val + k.val
    · have hin : ∀ c : Fin 3, (![0, M, 0] : Fin 3 → ℕ) c ≤ (ix3 a p d (c.cast h.1.symm)).val * (![1, 1, 1] : Fin 3 → ℕ) c + ((ix3 (0 : Fin 1) k (0 : Fin 1) : (⟨3, ![1, M + 1, 1]⟩ : Shape).Idx) c).val
          ∧ (ix3 a p d (c.cast h.1.symm)).val * (![1, 1, 1] : Fin 3 → ℕ) c + ((ix3 (0 : Fin 1) k (0 : Fin 1) : (⟨3, ![1, M + 1, 1]⟩ : Shape).Idx) c).val - (![0, M, 0] : Fin 3 → ℕ) c
            < (![A, M + 1, D] : Fin 3 → ℕ) c := by
        intro c
        match c with
        | ⟨0, _⟩ => show 0 ≤ a.val * 1 + 0 ∧ a.val * 1 + 0 - 0 < A; omega
        | ⟨1, _⟩ => show M ≤ p.val * 1 + k.val ∧ p.val * 1 + k.val - M < M + 1; omega
        | ⟨2, _⟩ => show 0 ≤ d.val * 1 + 0 ∧ d.val * 1 + 0 - 0 < D; omega
      rw [dif_pos hin, dif_pos hk]
      congr 1
      funext c
      refine Fin.ext ?_
      match c with
      | ⟨0, _⟩ => show a.val * 1 + 0 - 0 = a.val; omega
      | ⟨1, _⟩ => show p.val * 1 + k.val - M = p.val + k.val - M; omega
      | ⟨2, _⟩ => show d.val * 1 + 0 - 0 = d.val; omega
    · rw [dif_neg hk, dif_neg]
      intro hin
      have h1 : M ≤ p.val * 1 + k.val := (hin 1).1
      omega
  rw [Finset.sum_congr rfl fun k _ => hval k, ← Finset.sum_filter,
    ← Finset.sum_filter_of_ne (p := fun k : Fin (M + 1) => M ≤ p.val + k.val) (fun k _ hne => by_contra fun hk => hne (dif_neg hk))]
  refine Finset.sum_bij (fun k _ => ⟨(p.val + k.val - M) % (M + 1), Nat.mod_lt _ (Nat.succ_pos _)⟩) (fun k hk => ?_)
    (fun k hk l hl e => ?_) (fun j hj => ?_) (fun k hk => ?_)
  · have h1 := (Finset.mem_filter.1 hk).2
    have h2 := k.isLt
    refine Finset.mem_filter.2 ⟨Finset.mem_univ _, ?_⟩
    show (p.val + k.val - M) % (M + 1) < p.val + 1
    rw [Nat.mod_eq_of_lt (by omega)]
    omega
  · have h1 := (Finset.mem_filter.1 hk).2
    have h2 := k.isLt
    have h3 := (Finset.mem_filter.1 hl).2
    have h4 := l.isLt
    have e' : (p.val + k.val - M) % (M + 1) = (p.val + l.val - M) % (M + 1) := congrArg Fin.val e
    rw [Nat.mod_eq_of_lt (by omega), Nat.mod_eq_of_lt (by omega)] at e'
    exact Fin.ext (by omega)
  · have h1 := (Finset.mem_filter.1 hj).2
    have h2 := j.isLt
    refine ⟨⟨M + j.val - p.val, by omega⟩, Finset.mem_filter.2 ⟨Finset.mem_univ _, ?_⟩, Fin.ext ?_⟩
    · show M ≤ p.val + (M + j.val - p.val)
      omega
    · show (p.val + (M + j.val - p.val) - M) % (M + 1) = j.val
      rw [show p.val + (M + j.val - p.val) - M = j.val by omega, Nat.mod_eq_of_lt h2]
  · have h1 := (Finset.mem_filter.1 hk).2
    have h2 := k.isLt
    rw [dif_pos h1]
    congr 2
    exact Fin.ext (Nat.mod_eq_of_lt (by omega)).symm

end Cert.HostReads
-- ==== Proof.RefSort.lean ====
module

public import proofs.«01_k».proof.Proof.Gen.ReferenceIdeal.Read
public import Idealize.ShloMosaic.Lib.SortFacts
public import Idealize.ShloMosaic.Lib.WordCmp
public import Mathlib.Order.Fin.Basic
public import Mathlib.Order.Hom.Set
public import proofs.«01_k».proof.Proof.HostReads

@[expose] public section

/-! The reference's two sorts: the order of a row of positions, and the inverse of that order. -/

noncomputable section

namespace Cert.RefSort

open Cert.ReferenceIdeal Cert.ReferenceIdeal.Gen Cert.ReferenceIdeal.Read Cert.HostReads
open Idealize.ShloMosaic Idealize.ShloMosaic.ValueIdx

/-- The source positions of a row's sorted order. -/
def order (z : Fin 4096 → EReal) : Fin 4096 → Fin 4096 := sortedFrom (fun k k' => decide (z k < z k'))

theorem order_bij (z : Fin 4096 → EReal) : Function.Bijective (order z) :=
  ⟨sortedFrom_injective _, sortedFrom_surjective _⟩

/-- The sorted order as a permutation. -/
def perm (z : Fin 4096 → EReal) : Fin 4096 ≃ Fin 4096 := Equiv.ofBijective _ (order_bij z)

/-- Read in sorted order the row does not decrease. -/
theorem order_mono (z : Fin 4096 → EReal) : Monotone fun p => z (order z p) := by
  intro i j hij
  rcases eq_or_lt_of_le hij with rfl | h
  · exact le_rfl
  · have := sortedFrom_noInversion (fun k k' => decide (z k < z k')) (fun k k' => decide (z k < z k'))
      (fun a b hab => by simp only [decide_eq_true_eq, decide_eq_false_iff_not, not_lt] at *; exact hab.le)
      (fun a b hab => hab)
      (fun a b c hab hbc => by
        simp only [decide_eq_false_iff_not, not_lt] at *; exact hbc.trans hab) i j h
    simp only [decide_eq_false_iff_not, not_lt] at this
    exact this

/-- The positions of the words of a permutation, in increasing order of the words. -/
def inverse (s : Fin 4096 → Fin 4096) : Fin 4096 → Fin 4096 := sortedFrom (fun k k' => decide (s k < s k'))

/-- They invert the permutation. -/
theorem inverse_spec (s : Fin 4096 → Fin 4096) (hs : Function.Injective s) (k : Fin 4096) : s (inverse s k) = k := by
  have hm : StrictMono fun k => s (inverse s k) := by
    intro i j h
    have := sortedFrom_noInversion (fun k k' => decide (s k < s k')) (fun k k' => decide (s k < s k'))
      (fun a b hab => by simp only [decide_eq_true_eq, decide_eq_false_iff_not, not_lt] at *; exact hab.le)
      (fun a b hab => hab)
      (fun a b c hab hbc => by
        simp only [decide_eq_false_iff_not, not_lt] at *; exact hbc.trans hab) i j h
    simp only [decide_eq_false_iff_not, not_lt] at this
    refine lt_of_le_of_ne this (fun e => ?_)
    exact h.ne (sortedFrom_injective _ (hs e))
  have hsurj : Function.Surjective fun k => s (inverse s k) := Finite.injective_iff_surjective.mp hm.injective
  have := Subsingleton.elim (hm.orderIsoOfSurjective _ hsurj) (OrderIso.refl (Fin 4096))
  exact congrArg (fun e : Fin 4096 ≃o Fin 4096 => e k) this

/-- The first sort's comparison of two entries compares their numbers. -/
theorem comparator_eq (l r : EReal × BitVec 32) : comparator_f32_i32_d2 (F := Ideal) l r = Ideal.cmp .olt l.1 r.1 := by
  have key : ∀ x : EReal, (Scalar.select (Ideal.cmp .une x x) (FloatOps.ofBits (F := Ideal) .f32 0x7FC00000#32)
      (Scalar.select (Ideal.cmp .oeq x (FloatOps.ofBits (F := Ideal) .f32 0x00000000#32)) (FloatOps.ofBits (F := Ideal) .f32 0x00000000#32) x) : EReal) = x := by
    intro x
    have h0 : Ideal.cmp .une x x = 0#1 := by simp [Ideal.cmp]
    rw [h0, select_zero]
    generalize (FloatOps.ofBits (F := Ideal) .f32 0x00000000#32 : EReal) = c
    by_cases h : x = c
    · subst h
      have h1 : Ideal.cmp .oeq x x = 1#1 := by simp [Ideal.cmp]
      rw [h1, select_one]
    · have h1 : Ideal.cmp .oeq x c = 0#1 := by simp [Ideal.cmp, h]
      rw [h1, select_zero]
  have := congrArg₂ (Ideal.cmp .olt) (key l.1) (key r.1)
  exact this

theorem cmp_olt_beq (x y : EReal) : (Ideal.cmp .olt x y == 1#1) = decide (x < y) := by
  by_cases h : x < y <;> simp [Ideal.cmp, h]

/-- Positions along the last axis. -/
theorem along_last (n : Fin 2) (h : Fin 16) (p k : Fin 4096) :
    Shape.Idx.along (s := S2x16x4096) (ix3 n h p) 2 k = ix3 n h k := by
  funext a
  match a with
  | ⟨0, _⟩ => rfl
  | ⟨1, _⟩ => rfl
  | ⟨2, _⟩ => rfl

section
variable (x0 : (⟨S2x2048x2048, .f32⟩ : BufTy).Contents (Elt Ideal)) (x1 : (⟨S2048x2048, .f32⟩ : BufTy).Contents (Elt Ideal))
  (x2 : (⟨S2048, .f32⟩ : BufTy).Contents (Elt Ideal)) (x3 : (⟨S2048x2048, .f32⟩ : BufTy).Contents (Elt Ideal))
  (x4 : (⟨S2048, .f32⟩ : BufTy).Contents (Elt Ideal)) (x7 : (⟨S16x2048, .f32⟩ : BufTy).Contents (Elt Ideal))

/-- The row of joined positions. -/
abbrev row (n : Fin 2) (h : Fin 16) (p : Fin 4096) : EReal := val_main_v30 (F := Ideal) x0 x1 x2 x3 x4 x7 (ix3 n h p)

/-- The first sort's words are the positions of the sorted order. -/
theorem v31_at (n : Fin 2) (h : Fin 16) (p : Fin 4096) :
    val_main_v31 (F := Ideal) x0 x1 x2 x3 x4 x7 (ix3 n h p) = BitVec.ofNat 32 (order (row x0 x1 x2 x3 x4 x7 n h) p).val := by
  have hb : ∀ x : S2x16x4096.Idx → EReal, ∀ y : IVec S2x16x4096 32,
      (Host.sort2 S2x16x4096 2 (comparator_f32_i32_d2 (F := Ideal)) x y).2 (ix3 n h p)
        = y (ix3 n h (order (fun q => x (ix3 n h q)) p)) := by
    intro x y
    unfold Host.sort2
    rw [dif_pos (by decide)]
    dsimp only
    refine (congrArg y (along_last n h p _)).trans ?_
    refine congrArg (fun k => y (ix3 n h k)) ?_
    unfold order
    refine congrArg (fun f => sortedFrom f p) ?_
    funext k k'
    have e1 := along_last n h p k
    have e2 := along_last n h p k'
    rw [comparator_eq, cmp_olt_beq]
    exact congrArg₂ (fun a b => decide (x a < x b)) e1 e2
  unfold val_main_v31
  rw [hb]
  rfl

/-- The second sort's words are the positions of the inverse order. -/
theorem v33_at (n : Fin 2) (h : Fin 16) (p : Fin 4096) :
    val_main_v33 (F := Ideal) x0 x1 x2 x3 x4 x7 (ix3 n h p)
      = BitVec.ofNat 32 (inverse (order (row x0 x1 x2 x3 x4 x7 n h)) p).val := by
  have hb : ∀ x y : IVec S2x16x4096 32, ∀ s : Fin 4096 → Fin 4096, (∀ q, x (ix3 n h q) = BitVec.ofNat 32 (s q).val) →
      (Host.sort2 S2x16x4096 2 comparator_i32_i32_d2 x y).2 (ix3 n h p) = y (ix3 n h (inverse s p)) := by
    intro x y s hs
    unfold Host.sort2
    rw [dif_pos (by decide)]
    dsimp only
    refine (congrArg y (along_last n h p _)).trans ?_
    refine congrArg (fun k => y (ix3 n h k)) ?_
    unfold inverse
    refine congrArg (fun f => sortedFrom f p) ?_
    funext k k'
    have e1 := (congrArg x (along_last n h p k)).trans (hs k)
    have e2 := (congrArg x (along_last n h p k')).trans (hs k')
    refine (congrArg₂ (fun a b => IntOp.cmpi .slt a b == 1#1) e1 e2).trans ?_
    have t1 := toInt_ofNat (s k).val (by have := (s k).isLt; omega)
    have t2 := toInt_ofNat (s k').val (by have := (s k').isLt; omega)
    by_cases hlt : s k < s k'
    · have : IntOp.cmpi .slt (BitVec.ofNat 32 (s k).val) (BitVec.ofNat 32 (s k').val) = 1#1 := by
        rw [IntOp.cmpi_slt, t1, t2]; exact_mod_cast hlt
      rw [this]; simp [hlt]
    · have : IntOp.cmpi .slt (BitVec.ofNat 32 (s k).val) (BitVec.ofNat 32 (s k').val) ≠ 1#1 := by
        rw [Ne, IntOp.cmpi_slt, t1, t2]; exact_mod_cast hlt
      simp [hlt, this]
  unfold val_main_v33
  rw [hb _ _ _ (v31_at x0 x1 x2 x3 x4 x7 n h)]
  rfl

end

end Cert.RefSort
-- ==== Proof.RefTake.lean ====
module

public import proofs.«01_k».proof.Proof.Gen.ReferenceIdeal.Read
public import proofs.«01_k».proof.Proof.HostReads

@[expose] public section

/-! The reference's three kinds of element lookup, each a guarded gather, read at an index. -/

noncomputable section

namespace Cert.RefTake

open Cert.ReferenceIdeal Cert.ReferenceIdeal.Gen Cert.ReferenceIdeal.Read Cert.HostReads
open Idealize.ShloMosaic Idealize.ShloMosaic.ValueIdx

/-- The lookup along the last axis of `[2, 16, 4096]`. -/
def takeLast (x : S2x16x4096.Idx → EReal) (w : IVec S2x16x4096 32) : S2x16x4096.Idx → EReal :=
  let u : IVec S2x16x4096x1 32 :=
    shapeCast _ (select (cmpi .slt w (fun _ => 0#32)) (addi w (fun _ => 4096#32)) w) shapeCasts_S2x16x4096_S2x16x4096x1
  select (Host.reduce IntOp.andi (andi (cmpi .sge u (fun _ => 0#32)) (cmpi .sle u (fun _ => 4095#32))) (constantI S_ 1 1#1)
      reducesTo_S2x16x4096x1_S2x16x4096_d3 h_S_)
    (Host.gather gather_S2x16x4096_S2x16x4096x1_S2x16x4096_n_2_01_01_2_3_111 x u) (fun _ => FloatOps.ofBits (F := Ideal) .f32 0x7FC00000#32)

/-- The lookup along the third axis of `[2, 16, 4096, 128]`. -/
def takeThird (x : S2x16x4096x128.Idx → EReal) (w : IVec S2x16x4096x128 32) : S2x16x4096x128.Idx → EReal :=
  let u : IVec S2x16x4096x128x1 32 :=
    shapeCast _ (select (cmpi .slt w (fun _ => 0#32)) (addi w (fun _ => 4096#32)) w) shapeCasts_S2x16x4096x128_S2x16x4096x128x1
  select (Host.reduce IntOp.andi (andi (cmpi .sge u (fun _ => 0#32)) (cmpi .sle u (fun _ => 4095#32))) (constantI S_ 1 1#1)
      reducesTo_S2x16x4096x128x1_S2x16x4096x128_d4 h_S_)
    (Host.gather gather_S2x16x4096x128_S2x16x4096x128x1_S2x16x4096x128_n_2_013_013_2_4_1111 x u) (fun _ => FloatOps.ofBits (F := Ideal) .f32 0x7FC00000#32)

/-- The lookup along the middle axis of `[32, 4097, 128]`. -/
def takeMid (x : S32x4097x128.Idx → EReal) (w : IVec S32x4096x128 32) : S32x4096x128.Idx → EReal :=
  let u : IVec S32x4096x128x1 32 :=
    shapeCast _ (select (cmpi .slt w (fun _ => 0#32)) (addi w (fun _ => 4097#32)) w) shapeCasts_S32x4096x128_S32x4096x128x1
  select (Host.reduce IntOp.andi (andi (cmpi .sge u (fun _ => 0#32)) (cmpi .sle u (fun _ => 4096#32))) (constantI S_ 1 1#1)
      reducesTo_S32x4096x128x1_S32x4096x128_d3 h_S_)
    (Host.gather gather_S32x4097x128_S32x4096x128x1_S32x4096x128_n_1_02_02_1_3_111 x u) (fun _ => FloatOps.ofBits (F := Ideal) .f32 0x7FC00000#32)

/-- Where every word holds a position, the first lookup reads the operand there. -/
theorem takeLast_at (x : S2x16x4096.Idx → EReal) (w : IVec S2x16x4096 32) (f : S2x16x4096.Idx → Fin 4096)
    (hw : ∀ i, w i = BitVec.ofNat 32 (f i).val) (a : Fin 2) (b : Fin 16) (p : Fin 4096) :
    takeLast x w (ix3 a b p) = x (ix3 a b (f (ix3 a b p))) := by
  have hs : (select (cmpi .slt w (fun _ => 0#32)) (addi w (fun _ => 4096#32)) w : IVec S2x16x4096 32) = w := by
    funext i
    show Scalar.select (IntOp.cmpi .slt (w i) 0#32) _ (w i) = w i
    rw [hw]
    exact wrap_word _ (by have := (f i).isLt; omega) _
  unfold takeLast
  rw [hs]
  dsimp only
  have hu : ∀ (a : Fin 2) (b : Fin 16) (p : Fin 4096) (q : Fin 1),
      (shapeCast _ w shapeCasts_S2x16x4096_S2x16x4096x1 : IVec S2x16x4096x1 32) (ix4 a b p q) = w (ix3 a b p) := by
    intro a b p q
    refine shapeCast_apply w _ _ _ ?_
    rw [Shape.rowMajor_val_three, Shape.rowMajor_val_four]
    have := q.isLt
    show (a.val * 16 + b.val) * 4096 + p.val = ((a.val * 16 + b.val) * 4096 + p.val) * 1 + q.val
    omega
  show Scalar.select _ _ _ = _
  rw [Host.reduce_andi_one _ _ _ _ _ rfl (fun i => ?_), select_one]
  · refine gather_last _ x _ a b p (f (ix3 a b p)) (by norm_num) ?_
    rw [hu, hw]
  · obtain ⟨a', b', p', q', rfl⟩ : ∃ (a' : Fin 2) (b' : Fin 16) (p' : Fin 4096) (q' : Fin 1), i = ix4 a' b' p' q' :=
      ⟨i 0, i 1, i 2, i 3, eq_ix4 i⟩
    show IntOp.andi (IntOp.cmpi .sge _ 0#32) (IntOp.cmpi .sle _ 4095#32) = 1#1
    rw [hu, hw]
    exact bounds_word _ 4095 (by have := (f (ix3 a' b' p')).isLt; omega) (by norm_num)

/-- Where every word holds a position, the second lookup reads the operand there. -/
theorem takeThird_at (x : S2x16x4096x128.Idx → EReal) (w : IVec S2x16x4096x128 32) (f : S2x16x4096x128.Idx → Fin 4096)
    (hw : ∀ i, w i = BitVec.ofNat 32 (f i).val) (a : Fin 2) (b : Fin 16) (p : Fin 4096) (d : Fin 128) :
    takeThird x w (ix4 a b p d) = x (ix4 a b (f (ix4 a b p d)) d) := by
  have hs : (select (cmpi .slt w (fun _ => 0#32)) (addi w (fun _ => 4096#32)) w : IVec S2x16x4096x128 32) = w := by
    funext i
    show Scalar.select (IntOp.cmpi .slt (w i) 0#32) _ (w i) = w i
    rw [hw]
    exact wrap_word _ (by have := (f i).isLt; omega) _
  unfold takeThird
  rw [hs]
  dsimp only
  have hu : ∀ (a : Fin 2) (b : Fin 16) (p : Fin 4096) (d : Fin 128) (q : Fin 1),
      (shapeCast _ w shapeCasts_S2x16x4096x128_S2x16x4096x128x1 : IVec S2x16x4096x128x1 32) (ix5 a b p d q) = w (ix4 a b p d) := by
    intro a b p d q
    refine shapeCast_apply w _ _ _ ?_
    rw [Shape.rowMajor_val_four, Shape.rowMajor_val_five]
    have := q.isLt
    show ((a.val * 16 + b.val) * 4096 + p.val) * 128 + d.val = (((a.val * 16 + b.val) * 4096 + p.val) * 128 + d.val) * 1 + q.val
    omega
  show Scalar.select _ _ _ = _
  rw [Host.reduce_andi_one _ _ _ _ _ rfl (fun i => ?_), select_one]
  · refine gather_third _ x _ a b p d (f (ix4 a b p d)) (by norm_num) ?_
    rw [hu, hw]
  · obtain ⟨a', b', p', d', q', rfl⟩ : ∃ (a' : Fin 2) (b' : Fin 16) (p' : Fin 4096) (d' : Fin 128) (q' : Fin 1),
        i = ix5 a' b' p' d' q' := ⟨i 0, i 1, i 2, i 3, i 4, eq_ix5 i⟩
    show IntOp.andi (IntOp.cmpi .sge _ 0#32) (IntOp.cmpi .sle _ 4095#32) = 1#1
    rw [hu, hw]
    exact bounds_word _ 4095 (by have := (f (ix4 a' b' p' d')).isLt; omega) (by norm_num)

/-- Where every word holds a position, the third lookup reads the operand there. -/
theorem takeMid_at (x : S32x4097x128.Idx → EReal) (w : IVec S32x4096x128 32) (f : S32x4096x128.Idx → Fin 4097)
    (hw : ∀ i, w i = BitVec.ofNat 32 (f i).val) (a : Fin 32) (p : Fin 4096) (d : Fin 128) :
    takeMid x w (ix3 a p d) = x (ix3 a (f (ix3 a p d)) d) := by
  have hs : (select (cmpi .slt w (fun _ => 0#32)) (addi w (fun _ => 4097#32)) w : IVec S32x4096x128 32) = w := by
    funext i
    show Scalar.select (IntOp.cmpi .slt (w i) 0#32) _ (w i) = w i
    rw [hw]
    exact wrap_word _ (by have := (f i).isLt; omega) _
  unfold takeMid
  rw [hs]
  dsimp only
  have hu : ∀ (a : Fin 32) (p : Fin 4096) (d : Fin 128) (q : Fin 1),
      (shapeCast _ w shapeCasts_S32x4096x128_S32x4096x128x1 : IVec S32x4096x128x1 32) (ix4 a p d q) = w (ix3 a p d) := by
    intro a p d q
    refine shapeCast_apply w _ _ _ ?_
    rw [Shape.rowMajor_val_three, Shape.rowMajor_val_four]
    have := q.isLt
    show (a.val * 4096 + p.val) * 128 + d.val = ((a.val * 4096 + p.val) * 128 + d.val) * 1 + q.val
    omega
  show Scalar.select _ _ _ = _
  rw [Host.reduce_andi_one _ _ _ _ _ rfl (fun i => ?_), select_one]
  · refine gather_mid _ x _ a p d (f (ix3 a p d)) (by norm_num) ?_
    rw [hu, hw]
  · obtain ⟨a', p', d', q', rfl⟩ : ∃ (a' : Fin 32) (p' : Fin 4096) (d' : Fin 128) (q' : Fin 1), i = ix4 a' p' d' q' :=
      ⟨i 0, i 1, i 2, i 3, eq_ix4 i⟩
    show IntOp.andi (IntOp.cmpi .sge _ 0#32) (IntOp.cmpi .sle _ 4096#32) = 1#1
    rw [hu, hw]
    exact bounds_word _ 4096 (by have := (f (ix3 a' p' d')).isLt; omega) (by norm_num)

variable (x0 : (⟨S2x2048x2048, .f32⟩ : BufTy).Contents (Elt Ideal)) (x1 : (⟨S2048x2048, .f32⟩ : BufTy).Contents (Elt Ideal))
  (x2 : (⟨S2048, .f32⟩ : BufTy).Contents (Elt Ideal)) (x3 : (⟨S2048x2048, .f32⟩ : BufTy).Contents (Elt Ideal))
  (x4 : (⟨S2048, .f32⟩ : BufTy).Contents (Elt Ideal)) (x5 : (⟨S2048x2048, .f32⟩ : BufTy).Contents (Elt Ideal))
  (x6 : (⟨S2048, .f32⟩ : BufTy).Contents (Elt Ideal)) (x7 : (⟨S16x2048, .f32⟩ : BufTy).Contents (Elt Ideal))
  (x8 : (⟨S16, .f32⟩ : BufTy).Contents (Elt Ideal))

/-- The seven lookups of the reference are these. -/
theorem v32_eq : val_main_v32 (F := Ideal) x0 x1 x2 x3 x4 x7
    = takeLast (val_main_v30 (F := Ideal) x0 x1 x2 x3 x4 x7) (val_main_v31 (F := Ideal) x0 x1 x2 x3 x4 x7) := rfl
theorem v38_eq : val_main_v38 (F := Ideal) x0 x1 x2 x3 x4 x5 x6 x7
    = takeThird (val_main_v35 (F := Ideal) x0 x5 x6) (val_main_v37 (F := Ideal) x0 x1 x2 x3 x4 x7) := rfl
theorem v78_eq : val_main_v78 (F := Ideal) x0 x1 x2 x3 x4 x5 x6 x7 x8
    = takeMid (val_main_v54 (F := Ideal) x0 x1 x2 x3 x4 x5 x6 x7) (val_main_v77 (F := Ideal) x0 x1 x2 x3 x4 x7 x8) := rfl
theorem v81_eq : val_main_v81 (F := Ideal) x0 x1 x2 x3 x4 x5 x6 x7 x8
    = takeMid (val_main_v54 (F := Ideal) x0 x1 x2 x3 x4 x5 x6 x7) (val_main_v80 (F := Ideal) x0 x1 x2 x3 x4 x7 x8) := rfl
theorem v84_eq : val_main_v84 (F := Ideal) x0 x1 x2 x3 x4 x5 x6 x7 x8
    = takeMid (val_main_v55 (F := Ideal) x0 x1 x2 x3 x4 x5 x6 x7) (val_main_v83 (F := Ideal) x0 x1 x2 x3 x4 x7 x8) := rfl
theorem v87_eq : val_main_v87 (F := Ideal) x0 x1 x2 x3 x4 x5 x6 x7 x8
    = takeMid (val_main_v55 (F := Ideal) x0 x1 x2 x3 x4 x5 x6 x7) (val_main_v86 (F := Ideal) x0 x1 x2 x3 x4 x7 x8) := rfl
theorem v116_eq : val_main_v116 (F := Ideal) x0 x1 x2 x3 x4 x5 x6 x7 x8
    = takeThird (val_main_v113 (F := Ideal) x0 x1 x2 x3 x4 x5 x6 x7 x8) (val_main_v115 (F := Ideal) x0 x1 x2 x3 x4 x7) := rfl

end Cert.RefTake
-- ==== Proof.RefRow.lean ====
module

public import proofs.«01_k».proof.Proof.RefLine
public import proofs.«01_k».proof.Proof.RefSort
public import proofs.«01_k».proof.Proof.RefTake

@[expose] public section

/-! The reference's sorted rows: one per batch entry and head, each with its positions, its values, its bandwidth,
the running sums of values and weighted values, and the two counts that bound a position's neighbourhood. -/

noncomputable section

namespace Cert.RefRow

open Cert.ReferenceIdeal Cert.ReferenceIdeal.Gen Cert.ReferenceIdeal.Read Cert.HostReads Cert.RefTake Cert.RefSort Cert.RefLine Cert.Spec
open Idealize.ShloMosaic Idealize.ShloMosaic.ValueIdx

/-- The batch entry of row `m`. -/
def hi (m : Fin 32) : Fin 2 := ⟨m.val / 16, by omega⟩

/-- The head of row `m`. -/
def lo (m : Fin 32) : Fin 16 := ⟨m.val % 16, by omega⟩

/-- The one pattern is one. -/
theorem oneBits : FloatOps.ofBits (F := Ideal) .f32 0x3F800000#32 = 1 := by
  show Ideal.ofBits .f32 0x3F800000#32 = 1
  simp [Ideal.ofBits, Ideal.ieee, -EReal.coe_mul]
  norm_num

section
variable (x0 : A3) (x1 : A2) (x2 : A1) (x3 : A2) (x4 : A1) (x5 : A2) (x6 : A1) (x7 : AP) (x8 : (⟨S16, .f32⟩ : BufTy).Contents (Elt Ideal))

/-- The sorted order of row `m`. -/
abbrev ord (m : Fin 32) : Fin 4096 → Fin 4096 := order (row x0 x1 x2 x3 x4 x7 (hi m) (lo m))

/-- The sorted positions of row `m`. -/
def sz (m : Fin 32) (p : Fin 4096) : EReal := row x0 x1 x2 x3 x4 x7 (hi m) (lo m) (ord x0 x1 x2 x3 x4 x7 m p)

/-- The values of row `m`, in the order of its positions. -/
def sv (m : Fin 32) (d : Fin 128) (p : Fin 4096) : EReal := val_main_v35 (F := Ideal) x0 x5 x6 (ix4 (hi m) (lo m) (ord x0 x1 x2 x3 x4 x7 m p) d)

/-- The first lookup reads the positions in sorted order. -/
theorem v32_at (n : Fin 2) (h : Fin 16) (p : Fin 4096) :
    val_main_v32 (F := Ideal) x0 x1 x2 x3 x4 x7 (ix3 n h p) = row x0 x1 x2 x3 x4 x7 n h (order (row x0 x1 x2 x3 x4 x7 n h) p) := by
  rw [v32_eq]
  exact takeLast_at _ _ (fun i => order (row x0 x1 x2 x3 x4 x7 (i 0) (i 1)) (i 2))
    (fun i => (congrArg (val_main_v31 (F := Ideal) x0 x1 x2 x3 x4 x7) (eq_ix3 i)).trans (v31_at x0 x1 x2 x3 x4 x7 (i 0) (i 1) (i 2))) n h p

/-- The second lookup reads the values in sorted order. -/
theorem v38_at (n : Fin 2) (h : Fin 16) (p : Fin 4096) (d : Fin 128) :
    val_main_v38 (F := Ideal) x0 x1 x2 x3 x4 x5 x6 x7 (ix4 n h p d) = val_main_v35 (F := Ideal) x0 x5 x6 (ix4 n h (order (row x0 x1 x2 x3 x4 x7 n h) p) d) := by
  rw [v38_eq]
  refine takeThird_at _ _ (fun i => order (row x0 x1 x2 x3 x4 x7 (i 0) (i 1)) (i 2)) (fun i => ?_) n h p d
  rw [val_main_v37_apply, val_main_v36_apply]
  refine Eq.trans (congrArg (val_main_v31 (F := Ideal) x0 x1 x2 x3 x4 x7) ?_) (v31_at x0 x1 x2 x3 x4 x7 (i 0) (i 1) (i 2))
  exact funext fun a => match a with | ⟨0, _⟩ => rfl | ⟨1, _⟩ => rfl | ⟨2, _⟩ => rfl

/-- Row `m`'s values. -/
theorem v39_at (m : Fin 32) (p : Fin 4096) (d : Fin 128) : val_main_v39 (F := Ideal) x0 x1 x2 x3 x4 x5 x6 x7 (ix3 m p d) = sv x0 x1 x2 x3 x4 x5 x6 x7 m d p := by
  have h0 := m.isLt
  have h1 := p.isLt
  have h2 := d.isLt
  have e1 : idx_main_v39 (ix3 m p d) = ix4 (hi m) (lo m) p d := by
    funext a
    match a with
    | ⟨0, _⟩ => exact Fin.ext (by show ((m.val * 4096 + p.val) * 128 + d.val) / 8388608 = m.val / 16; omega)
    | ⟨1, _⟩ => exact Fin.ext (by show ((m.val * 4096 + p.val) * 128 + d.val) / 524288 % 16 = m.val % 16; omega)
    | ⟨2, _⟩ => exact Fin.ext (by show ((m.val * 4096 + p.val) * 128 + d.val) / 128 % 4096 = p.val; omega)
    | ⟨3, _⟩ => exact Fin.ext (by show ((m.val * 4096 + p.val) * 128 + d.val) % 128 = d.val; omega)
  rw [val_main_v39_apply, e1]
  exact v38_at x0 x1 x2 x3 x4 x5 x6 x7 _ _ _ _

/-- Row `m`'s positions. -/
theorem v40_at (m : Fin 32) (p : Fin 4096) : val_main_v40 (F := Ideal) x0 x1 x2 x3 x4 x7 (ix2 m p) = sz x0 x1 x2 x3 x4 x7 m p := by
  have h0 := m.isLt
  have h1 := p.isLt
  have e1 : idx_main_v40 (ix2 m p) = ix3 (hi m) (lo m) p := by
    funext a
    match a with
    | ⟨0, _⟩ => exact Fin.ext (by show (m.val * 4096 + p.val) / 65536 = m.val / 16; omega)
    | ⟨1, _⟩ => exact Fin.ext (by show (m.val * 4096 + p.val) / 4096 % 16 = m.val % 16; omega)
    | ⟨2, _⟩ => exact Fin.ext (by show (m.val * 4096 + p.val) % 4096 = p.val; omega)
  rw [val_main_v40_apply, e1]
  exact v32_at x0 x1 x2 x3 x4 x7 _ _ _

/-- Row `m`'s bandwidth. -/
def bw (m : Fin 32) : EReal := bwE (x8 (ix1 (lo m)))

/-- The bandwidth's array holds it. -/
theorem v47_at (i : S32x1.Idx) (m : Fin 32) (hm : (i 0).val = m.val) : val_main_v47 (F := Ideal) x8 i = bw x8 m := by
  have e0 : idx_main_v41 (idx_main_v42 (idx_main_v43 (ix1 m))) = ix1 (lo m) := by
    funext a
    match a with
    | ⟨0, _⟩ => exact Fin.ext rfl
  have e1 : val_main_v43 (F := Ideal) x8 (ix1 m) = x8 (ix1 (lo m)) := by
    rw [val_main_v43_apply, val_main_v42_apply, val_main_v41_apply, e0]
  have e2 : idx_main_v47 i = ix1 m := by
    funext a
    match a with
    | ⟨0, _⟩ => exact Fin.ext hm
  rw [val_main_v47_apply, e2, val_main_v46_apply, val_main_v44_apply, val_main_call4_v4_apply, val_main_call4_v11_apply,
    val_main_call4_v10_apply, val_main_call4_v9_apply, val_main_call4_v8_apply, val_main_call4_v7_apply, val_main_call4_v3_apply,
    val_main_call4_v1_apply, e1]
  unfold bw bwE eps
  generalize x8 (ix1 (lo m)) = l
  have z0 : (val_main_call4_v0 (F := Ideal)) (ix1 m) = (0 : EReal) := zeroBits
  have z2 : (val_main_call4_v2 (F := Ideal)) (ix1 m) = (0 : EReal) := zeroBits
  rw [z0, z2]
  have hs : (FloatOps.subf (F := Ideal) (φ := .f32) l (0 : EReal) : EReal) = l := sub_zero (l : EReal)
  rw [hs, show (FloatOps.cmpf (F := Ideal) .une l l) = 0#1 by show Ideal.cmp .une l l = 0#1; simp [Ideal.cmp], select_zero]
  rfl

/-- The running sum of row `m`'s values, from none to all. -/
def PV (m : Fin 32) (d : Fin 128) (k : ℕ) : EReal :=
  ∑ j : Fin 4096, if j.val < k then sv x0 x1 x2 x3 x4 x5 x6 x7 m d j else 0

/-- The running sum of row `m`'s values times positions. -/
def PZ (m : Fin 32) (d : Fin 128) (k : ℕ) : EReal :=
  ∑ j : Fin 4096, if j.val < k then sv x0 x1 x2 x3 x4 x5 x6 x7 m d j * sz x0 x1 x2 x3 x4 x7 m j else 0

/-- A running sum from a zero start, at an index. -/
theorem running (x : S32x4096x128.Idx → EReal) (v : S_.Idx → EReal) (hv : v (Shape.Idx.first h_S_) = 0) (m : Fin 32) (p : Fin 4096) (d : Fin 128) :
    Host.reduceWindowAdd (F := Ideal) (φ := .f32) ![1, 4096, 1] ![1, 1, 1] ![0, 4095, 0] ![0, 0, 0] x v
      reduceWindows_S32x4096x128_S32x4096x128_w1s1p0_0_w4096s1p4095_0_w1s1p0_0 h_S_ (ix3 m p d)
      = ∑ j : Fin 4096, if j.val < p.val + 1 then x (ix3 m j d) else 0 := by
  unfold Host.reduceWindowAdd
  rw [Ideal.hostReduceWindowAdd_def]
  generalize v (Shape.Idx.first h_S_) = c at hv
  subst hv
  exact cumsum_mid (M := 4095) rfl x _ m p d

theorem v48_at (m : Fin 32) (p : Fin 4096) (d : Fin 128) : val_main_v48 (F := Ideal) x0 x1 x2 x3 x4 x5 x6 x7 (ix3 m p d) = PV x0 x1 x2 x3 x4 x5 x6 x7 m d (p.val + 1) := by
  have e : (val_main_call5_call0_v0 (F := Ideal)) (Shape.Idx.first h_S_) = 0 := by
    rw [val_main_call5_call0_v0_apply, val_main_call5_call0_cst_apply]; exact zeroBits
  refine (running _ _ e m p d).trans ?_
  unfold PV
  refine Finset.sum_congr rfl fun j _ => ?_
  rw [v39_at]

theorem v51_at (m : Fin 32) (p : Fin 4096) (d : Fin 128) :
    val_main_v51 (F := Ideal) x0 x1 x2 x3 x4 x5 x6 x7 (ix3 m p d) = sv x0 x1 x2 x3 x4 x5 x6 x7 m d p * sz x0 x1 x2 x3 x4 x7 m p := by
  rw [val_main_v51_apply, v39_at, val_main_v50_apply, val_main_v49_apply,
    show idx_main_v49 (idx_main_v50 (ix3 m p d)) = ix2 m p from funext fun a => match a with | ⟨0, _⟩ => rfl | ⟨1, _⟩ => rfl, v40_at]
  rfl

theorem v52_at (m : Fin 32) (p : Fin 4096) (d : Fin 128) : val_main_v52 (F := Ideal) x0 x1 x2 x3 x4 x5 x6 x7 (ix3 m p d) = PZ x0 x1 x2 x3 x4 x5 x6 x7 m d (p.val + 1) := by
  have e : (val_main_call6_call0_v0 (F := Ideal)) (Shape.Idx.first h_S_) = 0 := by
    rw [val_main_call6_call0_v0_apply, val_main_call6_call0_cst_apply]; exact zeroBits
  refine (running _ _ e m p d).trans ?_
  unfold PZ
  refine Finset.sum_congr rfl fun j _ => ?_
  rw [v51_at]

/-- A zero line joined on top of running sums holds the sums from none to all. -/
theorem padded (y : S32x4096x128.Idx → EReal) (P : ℕ → EReal) (hP : P 0 = 0) (m : Fin 32) (d : Fin 128)
    (hy : ∀ p : Fin 4096, y (ix3 m p d) = P (p.val + 1)) (k : Fin 4097) :
    concatenate S32x4097x128 1 [⟨S32x1x128, val_main_v53 (F := Ideal)⟩, ⟨S32x4096x128, y⟩]
      concatenates_S32x1x128_S32x4096x128_S32x4097x128_d1 (ix3 m k d) = P k.val := by
  by_cases hk : k.val < 1
  · have hz : k.val = 0 := by omega
    rw [hz, hP]
    refine (concatenate_pair_apply_left (t := S32x4097x128) (s₁ := S32x1x128) (s₂ := S32x4096x128) 1 _ _ _ (ix3 m k d) rfl (ix3 m ⟨k.val, hk⟩ d)
      (fun b => match b with | ⟨0, _⟩ => rfl | ⟨1, _⟩ => rfl | ⟨2, _⟩ => rfl)).trans ?_
    rw [val_main_v53_apply]
    exact zeroBits
  · refine (concatenate_pair_apply_right (t := S32x4097x128) (s₁ := S32x1x128) (s₂ := S32x4096x128) 1 _ _ _ (ix3 m k d) rfl rfl
      (ix3 m ⟨k.val - 1, by omega⟩ d)
      (fun b hb => match b, hb with | ⟨0, _⟩, _ => rfl | ⟨1, _⟩, hb => absurd rfl hb | ⟨2, _⟩, _ => rfl)
      (show k.val - 1 + 1 = k.val by omega)).trans ?_
    rw [hy]
    exact congrArg P (show k.val - 1 + 1 = k.val by omega)

theorem v54_at (m : Fin 32) (k : Fin 4097) (d : Fin 128) : val_main_v54 (F := Ideal) x0 x1 x2 x3 x4 x5 x6 x7 (ix3 m k d) = PV x0 x1 x2 x3 x4 x5 x6 x7 m d k.val := by
  unfold val_main_v54
  exact padded _ _ (by unfold PV; simp) m d (fun p => v48_at x0 x1 x2 x3 x4 x5 x6 x7 m p d) k

theorem v55_at (m : Fin 32) (k : Fin 4097) (d : Fin 128) : val_main_v55 (F := Ideal) x0 x1 x2 x3 x4 x5 x6 x7 (ix3 m k d) = PZ x0 x1 x2 x3 x4 x5 x6 x7 m d k.val := by
  unfold val_main_v55
  exact padded _ _ (by unfold PZ; simp) m d (fun p => v52_at x0 x1 x2 x3 x4 x5 x6 x7 m p d) k

open Classical in
/-- How many positions of row `m` lie left of the neighbourhood of place `p`. -/
def nL (m : Fin 32) (p : Fin 4096) : ℕ :=
  (Finset.univ.filter fun j => sz x0 x1 x2 x3 x4 x7 m j < sz x0 x1 x2 x3 x4 x7 m p - bw x8 m).card

open Classical in
/-- How many lie left of its right end or on it. -/
def nR (m : Fin 32) (p : Fin 4096) : ℕ :=
  (Finset.univ.filter fun j => sz x0 x1 x2 x3 x4 x7 m j ≤ sz x0 x1 x2 x3 x4 x7 m p + bw x8 m).card

theorem nL_le (m : Fin 32) (p : Fin 4096) : nL x0 x1 x2 x3 x4 x7 x8 m p < 4097 := by
  have := Finset.card_filter_le (Finset.univ : Finset (Fin 4096)) fun j => sz x0 x1 x2 x3 x4 x7 m j < sz x0 x1 x2 x3 x4 x7 m p - bw x8 m
  rw [Finset.card_univ, Fintype.card_fin] at this
  unfold nL
  convert Nat.lt_succ_of_le this

theorem nR_le (m : Fin 32) (p : Fin 4096) : nR x0 x1 x2 x3 x4 x7 x8 m p < 4097 := by
  have := Finset.card_filter_le (Finset.univ : Finset (Fin 4096)) fun j => sz x0 x1 x2 x3 x4 x7 m j ≤ sz x0 x1 x2 x3 x4 x7 m p + bw x8 m
  rw [Finset.card_univ, Fintype.card_fin] at this
  unfold nR
  convert Nat.lt_succ_of_le this

theorem v66_at (m : Fin 32) (p : Fin 4096) : val_main_v66 (F := Ideal) x0 x1 x2 x3 x4 x7 x8 (ix2 m p) = BitVec.ofNat 32 (nL x0 x1 x2 x3 x4 x7 x8 m p) := by
  classical
  unfold val_main_v66 val_main_v65
  refine (count_last (by norm_num) _ _ _ _ (fun i => rfl) _ m p).trans ?_
  unfold nL
  refine congrArg (fun s => BitVec.ofNat 32 (Finset.card s)) ?_
  refine Finset.filter_congr fun j _ => ?_
  rw [val_main_v64_apply, val_main_v62_apply, val_main_v60_apply, val_main_v63_apply, val_main_v61_apply, val_main_v57_apply, val_main_v56_apply,
    show idx_main_v60 (idx_main_v62 (ix3 m p j)) = ix2 m j from funext fun a => match a with | ⟨0, _⟩ => rfl | ⟨1, _⟩ => rfl,
    show idx_main_v61 (idx_main_v63 (ix3 m p j)) = ix2 m p from funext fun a => match a with | ⟨0, _⟩ => rfl | ⟨1, _⟩ => rfl,
    v40_at, v40_at, v47_at x8 _ m rfl]
  show BitVec.ofBool (decide _) = 1#1 ↔ _
  by_cases hlt : sz x0 x1 x2 x3 x4 x7 m j < sz x0 x1 x2 x3 x4 x7 m p - bw x8 m <;> simp [hlt]

theorem v73_at (m : Fin 32) (p : Fin 4096) : val_main_v73 (F := Ideal) x0 x1 x2 x3 x4 x7 x8 (ix2 m p) = BitVec.ofNat 32 (nR x0 x1 x2 x3 x4 x7 x8 m p) := by
  classical
  unfold val_main_v73 val_main_v72
  refine (count_last (by norm_num) _ _ _ _ (fun i => rfl) _ m p).trans ?_
  unfold nR
  refine congrArg (fun s => BitVec.ofNat 32 (Finset.card s)) ?_
  refine Finset.filter_congr fun j _ => ?_
  rw [val_main_v71_apply, val_main_v69_apply, val_main_v67_apply, val_main_v70_apply, val_main_v68_apply, val_main_v59_apply, val_main_v58_apply,
    show idx_main_v67 (idx_main_v69 (ix3 m p j)) = ix2 m j from funext fun a => match a with | ⟨0, _⟩ => rfl | ⟨1, _⟩ => rfl,
    show idx_main_v68 (idx_main_v70 (ix3 m p j)) = ix2 m p from funext fun a => match a with | ⟨0, _⟩ => rfl | ⟨1, _⟩ => rfl,
    v40_at, v40_at, v47_at x8 _ m rfl]
  show BitVec.ofBool (decide _) = 1#1 ↔ _
  by_cases hlt : sz x0 x1 x2 x3 x4 x7 m j ≤ sz x0 x1 x2 x3 x4 x7 m p + bw x8 m <;> simp [hlt]

end

end Cert.RefRow
-- ==== Proof.RefOut.lean ====
module

public import proofs.«01_k».proof.Proof.RefRow
public import proofs.«01_k».proof.Proof.Tent

@[expose] public section

/-! The reference's result at an index: where the positions and values are real numbers it is the tent-weighted sum. -/

noncomputable section

namespace Cert.RefOut

open Cert.ReferenceIdeal Cert.ReferenceIdeal.Gen Cert.ReferenceIdeal.Read Cert.HostReads Cert.RefTake Cert.RefSort Cert.RefLine Cert.RefRow Cert.Spec
open Idealize.ShloMosaic Idealize.ShloMosaic.ValueIdx

section
variable (x0 : A3) (x1 : A2) (x2 : A1) (x3 : A2) (x4 : A1) (x5 : A2) (x6 : A1) (x7 : AP) (x8 : (⟨S16, .f32⟩ : BufTy).Contents (Elt Ideal))

theorem v77_word (i : S32x4096x128.Idx) : val_main_v77 (F := Ideal) x0 x1 x2 x3 x4 x7 x8 i = BitVec.ofNat 32 (nL x0 x1 x2 x3 x4 x7 x8 (i 0) (i 1)) := by
  obtain ⟨m, p, d, rfl⟩ : ∃ (m : Fin 32) (p : Fin 4096) (d : Fin 128), i = ix3 m p d := ⟨i 0, i 1, i 2, eq_ix3 i⟩
  rw [val_main_v77_apply, val_main_v76_apply, show idx_main_v76 (idx_main_v77 (ix3 m p d)) = ix2 m p from
    funext fun a => match a with | ⟨0, _⟩ => rfl | ⟨1, _⟩ => rfl, v66_at]

theorem v80_word (i : S32x4096x128.Idx) : val_main_v80 (F := Ideal) x0 x1 x2 x3 x4 x7 x8 i = BitVec.ofNat 32 (nR x0 x1 x2 x3 x4 x7 x8 (i 0) (i 1)) := by
  obtain ⟨m, p, d, rfl⟩ : ∃ (m : Fin 32) (p : Fin 4096) (d : Fin 128), i = ix3 m p d := ⟨i 0, i 1, i 2, eq_ix3 i⟩
  rw [val_main_v80_apply, val_main_v79_apply, show idx_main_v79 (idx_main_v80 (ix3 m p d)) = ix2 m p from
    funext fun a => match a with | ⟨0, _⟩ => rfl | ⟨1, _⟩ => rfl, v73_at]

/-- The lookups of the running sums at the two counts. -/
theorem v78_at (m : Fin 32) (p : Fin 4096) (d : Fin 128) :
    val_main_v78 (F := Ideal) x0 x1 x2 x3 x4 x5 x6 x7 x8 (ix3 m p d) = PV x0 x1 x2 x3 x4 x5 x6 x7 m d (nL x0 x1 x2 x3 x4 x7 x8 m p) := by
  rw [v78_eq]
  exact (takeMid_at _ _ (fun i => ⟨nL x0 x1 x2 x3 x4 x7 x8 (i 0) (i 1), nL_le x0 x1 x2 x3 x4 x7 x8 (i 0) (i 1)⟩)
    (v77_word x0 x1 x2 x3 x4 x7 x8) m p d).trans (v54_at x0 x1 x2 x3 x4 x5 x6 x7 m _ d)

theorem v81_at (m : Fin 32) (p : Fin 4096) (d : Fin 128) :
    val_main_v81 (F := Ideal) x0 x1 x2 x3 x4 x5 x6 x7 x8 (ix3 m p d) = PV x0 x1 x2 x3 x4 x5 x6 x7 m d (nR x0 x1 x2 x3 x4 x7 x8 m p) := by
  rw [v81_eq]
  exact (takeMid_at _ _ (fun i => ⟨nR x0 x1 x2 x3 x4 x7 x8 (i 0) (i 1), nR_le x0 x1 x2 x3 x4 x7 x8 (i 0) (i 1)⟩)
    (v80_word x0 x1 x2 x3 x4 x7 x8) m p d).trans (v54_at x0 x1 x2 x3 x4 x5 x6 x7 m _ d)

theorem v84_at (m : Fin 32) (p : Fin 4096) (d : Fin 128) :
    val_main_v84 (F := Ideal) x0 x1 x2 x3 x4 x5 x6 x7 x8 (ix3 m p d) = PZ x0 x1 x2 x3 x4 x5 x6 x7 m d (nL x0 x1 x2 x3 x4 x7 x8 m p) := by
  rw [v84_eq]
  exact (takeMid_at _ _ (fun i => ⟨nL x0 x1 x2 x3 x4 x7 x8 (i 0) (i 1), nL_le x0 x1 x2 x3 x4 x7 x8 (i 0) (i 1)⟩)
    (v77_word x0 x1 x2 x3 x4 x7 x8) m p d).trans (v55_at x0 x1 x2 x3 x4 x5 x6 x7 m _ d)

theorem v87_at (m : Fin 32) (p : Fin 4096) (d : Fin 128) :
    val_main_v87 (F := Ideal) x0 x1 x2 x3 x4 x5 x6 x7 x8 (ix3 m p d) = PZ x0 x1 x2 x3 x4 x5 x6 x7 m d (nR x0 x1 x2 x3 x4 x7 x8 m p) := by
  rw [v87_eq]
  exact (takeMid_at _ _ (fun i => ⟨nR x0 x1 x2 x3 x4 x7 x8 (i 0) (i 1), nR_le x0 x1 x2 x3 x4 x7 x8 (i 0) (i 1)⟩)
    (v80_word x0 x1 x2 x3 x4 x7 x8) m p d).trans (v55_at x0 x1 x2 x3 x4 x5 x6 x7 m _ d)

/-- The running sums up to and with a place. -/
theorem v74_at (m : Fin 32) (p : Fin 4096) (d : Fin 128) : val_main_v74 (F := Ideal) x0 x1 x2 x3 x4 x5 x6 x7 (ix3 m p d) = PV x0 x1 x2 x3 x4 x5 x6 x7 m d (p.val + 1) := by
  rw [val_main_v74_apply, show idx_main_v74 (ix3 m p d) = ix3 m ⟨1 + p.val, by omega⟩ d from
    funext fun a => match a with | ⟨0, _⟩ => rfl | ⟨1, _⟩ => rfl | ⟨2, _⟩ => rfl, v54_at]
  exact congrArg _ (Nat.add_comm _ _)

theorem v75_at (m : Fin 32) (p : Fin 4096) (d : Fin 128) : val_main_v75 (F := Ideal) x0 x1 x2 x3 x4 x5 x6 x7 (ix3 m p d) = PZ x0 x1 x2 x3 x4 x5 x6 x7 m d (p.val + 1) := by
  rw [val_main_v75_apply, show idx_main_v75 (ix3 m p d) = ix3 m ⟨1 + p.val, by omega⟩ d from
    funext fun a => match a with | ⟨0, _⟩ => rfl | ⟨1, _⟩ => rfl | ⟨2, _⟩ => rfl, v55_at]
  exact congrArg _ (Nat.add_comm _ _)

/-- A position over the bandwidth. -/
theorem v97_at (m : Fin 32) (p : Fin 4096) (i : S32x4096x1.Idx) (h0 : i 0 = m) (h1 : i 1 = p) :
    val_main_v97 (F := Ideal) x0 x1 x2 x3 x4 x7 x8 i = Ideal.div (sz x0 x1 x2 x3 x4 x7 m p) (bw x8 m) := by
  rw [val_main_v97_apply, show idx_main_v97 i = ix2 m p from
    funext fun a => match a with | ⟨0, _⟩ => Fin.ext (congrArg Fin.val h0) | ⟨1, _⟩ => Fin.ext (congrArg Fin.val h1),
    val_main_v96_apply, v40_at, val_main_v95_apply, v47_at x8 _ m rfl]
  rfl

/-- The inverse bandwidth. -/
theorem v94_at (m : Fin 32) (i : S32x1x1.Idx) (h0 : i 0 = m) : val_main_v94 (F := Ideal) x8 i = Ideal.div 1 (bw x8 m) := by
  have e : (val_main_v92 (F := Ideal)) (idx_main_v94 i) = (1 : EReal) := oneBits
  rw [val_main_v94_apply, val_main_v93_apply, v47_at x8 _ m (congrArg Fin.val h0), e]
  rfl

/-- The sorted rows' results. -/
theorem v112_at (m : Fin 32) (p : Fin 4096) (d : Fin 128) :
    val_main_v112 (F := Ideal) x0 x1 x2 x3 x4 x5 x6 x7 x8 (ix3 m p d)
      = ((PV x0 x1 x2 x3 x4 x5 x6 x7 m d (p.val + 1) - PV x0 x1 x2 x3 x4 x5 x6 x7 m d (nL x0 x1 x2 x3 x4 x7 x8 m p))
            * (1 - Ideal.div (sz x0 x1 x2 x3 x4 x7 m p) (bw x8 m))
          + (PZ x0 x1 x2 x3 x4 x5 x6 x7 m d (p.val + 1) - PZ x0 x1 x2 x3 x4 x5 x6 x7 m d (nL x0 x1 x2 x3 x4 x7 x8 m p)) * Ideal.div 1 (bw x8 m))
        + ((PV x0 x1 x2 x3 x4 x5 x6 x7 m d (nR x0 x1 x2 x3 x4 x7 x8 m p) - PV x0 x1 x2 x3 x4 x5 x6 x7 m d (p.val + 1))
            * (1 + Ideal.div (sz x0 x1 x2 x3 x4 x7 m p) (bw x8 m))
          - (PZ x0 x1 x2 x3 x4 x5 x6 x7 m d (nR x0 x1 x2 x3 x4 x7 x8 m p) - PZ x0 x1 x2 x3 x4 x5 x6 x7 m d (p.val + 1)) * Ideal.div 1 (bw x8 m)) := by
  have o1 : ∀ i, (val_main_v98 (F := Ideal)) i = (1 : EReal) := fun i => oneBits
  have o2 : ∀ i, (val_main_v105 (F := Ideal)) i = (1 : EReal) := fun i => oneBits
  rw [val_main_v112_apply, val_main_v104_apply, val_main_v111_apply, val_main_v101_apply, val_main_v103_apply, val_main_v108_apply,
    val_main_v110_apply, val_main_v88_apply, val_main_v89_apply, val_main_v90_apply, val_main_v91_apply,
    v74_at, v75_at, v78_at, v81_at, v84_at, v87_at, val_main_v100_apply, val_main_v99_apply, val_main_v107_apply, val_main_v106_apply,
    val_main_v102_apply, val_main_v109_apply, o1, o2,
    v97_at x0 x1 x2 x3 x4 x7 x8 m p (idx_main_v100 (ix3 m p d)) rfl rfl,
    v94_at x8 m (idx_main_v102 (ix3 m p d)) rfl]
  rfl

/-- Where the positions and values of a row are real numbers, its sorted result at a place is the tent-weighted sum
    of the values about that place. -/
theorem v112_real (m : Fin 32) (p : Fin 4096) (d : Fin 128) (z v : Fin 4096 → ℝ) (ib : ℝ)
    (hz : ∀ q, row x0 x1 x2 x3 x4 x7 (hi m) (lo m) q = (z q : EReal))
    (hv : ∀ q, val_main_v35 (F := Ideal) x0 x5 x6 (ix4 (hi m) (lo m) q d) = (v q : EReal)) (hib : ibE (x8 (ix1 (lo m))) = (ib : EReal)) :
    val_main_v112 (F := Ideal) x0 x1 x2 x3 x4 x5 x6 x7 x8 (ix3 m p d)
      = ((∑ j, Cert.Tent.tent ib (z (ord x0 x1 x2 x3 x4 x7 m p)) (z j) * v j : ℝ) : EReal) := by
  classical
  obtain ⟨ib', hib0, e1, e2, e3, e4⟩ := ib_real (x8 (ix1 (lo m)))
  have hie : ib' = ib := EReal.coe_injective (e1.symm.trans hib)
  subst hie
  set σ := ord x0 x1 x2 x3 x4 x7 m with hσ
  have hs : ∀ q, sz x0 x1 x2 x3 x4 x7 m q = ((z (σ q) : ℝ) : EReal) := fun q => hz _
  have hw : ∀ q, sv x0 x1 x2 x3 x4 x5 x6 x7 m d q = ((v (σ q) : ℝ) : EReal) := fun q => hv _
  have hPV : ∀ k, PV x0 x1 x2 x3 x4 x5 x6 x7 m d k = ((Cert.Tent.pre (fun j => v (σ j)) k : ℝ) : EReal) := by
    intro k
    unfold PV Cert.Tent.pre
    rw [coe_sum]
    refine Finset.sum_congr rfl fun j _ => ?_
    rw [hw]
    split
    · rfl
    · exact EReal.coe_zero.symm
  have hPZ : ∀ k, PZ x0 x1 x2 x3 x4 x5 x6 x7 m d k = ((Cert.Tent.pre (fun j => v (σ j) * z (σ j)) k : ℝ) : EReal) := by
    intro k
    unfold PZ Cert.Tent.pre
    rw [coe_sum]
    refine Finset.sum_congr rfl fun j _ => ?_
    rw [hw, hs]
    split
    · exact (EReal.coe_mul _ _).symm
    · exact EReal.coe_zero.symm
  have hmono : Monotone fun q => z (σ q) := by
    intro i j hij
    have := order_mono (row x0 x1 x2 x3 x4 x7 (hi m) (lo m)) hij
    have h2 : ((z (σ i) : ℝ) : EReal) ≤ ((z (σ j) : ℝ) : EReal) := by rw [← hz, ← hz]; exact this
    exact EReal.coe_le_coe_iff.1 h2
  have hl : nL x0 x1 x2 x3 x4 x7 x8 m p = (Finset.univ.filter fun j => 1 < (z (σ p) - z (σ j)) * ib').card := by
    unfold nL
    refine congrArg Finset.card ?_
    ext j
    rw [Finset.mem_filter, Finset.mem_filter, hs, hs]
    exact and_congr Iff.rfl (e3 _ _)
  have hr : nR x0 x1 x2 x3 x4 x7 x8 m p = (Finset.univ.filter fun j => (z (σ j) - z (σ p)) * ib' ≤ 1).card := by
    unfold nR
    refine congrArg Finset.card ?_
    ext j
    rw [Finset.mem_filter, Finset.mem_filter, hs, hs]
    exact and_congr Iff.rfl (e4 _ _)
  have hsum := Cert.Tent.sorted_sum (fun q => z (σ q)) (fun q => v (σ q)) hmono ib' hib0 p _ _ hl hr
  have hre : ∑ j, Cert.Tent.tent ib' (z (σ p)) (z (σ j)) * v (σ j) = ∑ j, Cert.Tent.tent ib' (z (σ p)) (z j) * v j :=
    (order_bij (row x0 x1 x2 x3 x4 x7 (hi m) (lo m))).sum_comp fun j => Cert.Tent.tent ib' (z (σ p)) (z j) * v j
  have hb : Ideal.div 1 (bw x8 m) = (ib' : EReal) := e1
  have hd : Ideal.div ((z (σ p) : ℝ) : EReal) (bw x8 m) = ((z (σ p) * ib' : ℝ) : EReal) := e2 _
  rw [v112_at, ← hre, ← hsum]
  simp only [hPV, hPZ, hs, hb, hd]
  push_cast
  rfl

/-- The row of batch entry `n` and head `h`. -/
def rowOf (n : Fin 2) (h : Fin 16) : Fin 32 := ⟨n.val * 16 + h.val, by omega⟩

theorem hi_rowOf (n : Fin 2) (h : Fin 16) : hi (rowOf n h) = n := Fin.ext (by show (n.val * 16 + h.val) / 16 = n.val; omega)
theorem lo_rowOf (n : Fin 2) (h : Fin 16) : lo (rowOf n h) = h := Fin.ext (by show (n.val * 16 + h.val) % 16 = h.val; omega)

/-- The last lookup puts the rows' results back in their own order. -/
theorem v116_at (n : Fin 2) (h : Fin 16) (q : Fin 4096) (d : Fin 128) :
    val_main_v116 (F := Ideal) x0 x1 x2 x3 x4 x5 x6 x7 x8 (ix4 n h q d) = val_main_v112 (F := Ideal) x0 x1 x2 x3 x4 x5 x6 x7 x8 (ix3 (rowOf n h) (inverse (order (row x0 x1 x2 x3 x4 x7 n h)) q) d) := by
  rw [v116_eq]
  refine (takeThird_at _ _ (fun i => inverse (order (row x0 x1 x2 x3 x4 x7 (i 0) (i 1))) (i 2)) (fun i => ?_) n h q d).trans ?_
  · rw [val_main_v115_apply, val_main_v114_apply]
    refine Eq.trans (congrArg (val_main_v33 (F := Ideal) x0 x1 x2 x3 x4 x7) ?_) (v33_at x0 x1 x2 x3 x4 x7 (i 0) (i 1) (i 2))
    exact funext fun a => match a with | ⟨0, _⟩ => rfl | ⟨1, _⟩ => rfl | ⟨2, _⟩ => rfl
  · generalize hk : inverse (order (row x0 x1 x2 x3 x4 x7 n h)) q = k
    have h0 := n.isLt
    have h1 := h.isLt
    have h2 := k.isLt
    have h3 := d.isLt
    have e1 : idx_main_v113 (ix4 n h k d) = ix3 (rowOf n h) k d := by
      funext a
      match a with
      | ⟨0, _⟩ => exact Fin.ext (by
          show (((n.val * 16 + h.val) * 4096 + k.val) * 128 + d.val) / 524288 = n.val * 16 + h.val; omega)
      | ⟨1, _⟩ => exact Fin.ext (by show (((n.val * 16 + h.val) * 4096 + k.val) * 128 + d.val) / 128 % 4096 = k.val; omega)
      | ⟨2, _⟩ => exact Fin.ext (by show (((n.val * 16 + h.val) * 4096 + k.val) * 128 + d.val) % 128 = d.val; omega)
    rw [val_main_v113_apply, e1]

/-- A head's entry of the result is its query's lookup over the sequence length. -/
theorem v122_at (n : Fin 2) (t : Fin 2048) (h : Fin 16) (d : Fin 128) :
    val_main_v122 (F := Ideal) x0 x1 x2 x3 x4 x5 x6 x7 x8 (ix3 n t (hcol h d)) = Ideal.div (val_main_v116 (F := Ideal) x0 x1 x2 x3 x4 x5 x6 x7 x8 (ix4 n h ⟨2048 + t.val, by omega⟩ d)) ((2048 : ℝ) : EReal) := by
  have h0 := n.isLt
  have h1 := t.isLt
  have h2 := h.isLt
  have h3 := d.isLt
  have e1 : idx_main_v122 (ix3 n t (hcol h d)) = ix4 n t h d := by
    funext a
    match a with
    | ⟨0, _⟩ => exact Fin.ext (by show ((n.val * 2048 + t.val) * 2048 + (h.val * 128 + d.val)) / 4194304 = n.val; omega)
    | ⟨1, _⟩ => exact Fin.ext (by show ((n.val * 2048 + t.val) * 2048 + (h.val * 128 + d.val)) / 2048 % 2048 = t.val; omega)
    | ⟨2, _⟩ => exact Fin.ext (by show ((n.val * 2048 + t.val) * 2048 + (h.val * 128 + d.val)) / 128 % 16 = h.val; omega)
    | ⟨3, _⟩ => exact Fin.ext (by show ((n.val * 2048 + t.val) * 2048 + (h.val * 128 + d.val)) % 128 = d.val; omega)
  have e2 : idx_main_v117 (idx_main_v121 (ix4 n t h d)) = ix4 n h ⟨2048 + t.val, by omega⟩ d :=
    funext fun a => match a with | ⟨0, _⟩ => rfl | ⟨1, _⟩ => rfl | ⟨2, _⟩ => rfl | ⟨3, _⟩ => rfl
  have e3 : ∀ i, (val_main_v119 (F := Ideal)) i = ((2048 : ℝ) : EReal) := by
    intro i
    show max (Ideal.ofBits .f32 0x45000000#32) (Ideal.ofBits .f32 0x3F800000#32) = _
    have a1 : Ideal.ofBits .f32 0x3F800000#32 = ((1 : ℝ) : EReal) := oneBits
    have a2 : Ideal.ofBits .f32 0x45000000#32 = ((2048 : ℝ) : EReal) := by
      simp [Ideal.ofBits, Ideal.ieee, -EReal.coe_mul]
      norm_num
    rw [a1, a2, ← coe_max]
    norm_num
  rw [val_main_v122_apply, e1, val_main_v121_apply, val_main_v120_apply, val_main_v117_apply, e2, e3]
  rfl

/-- The result at an index: where the layers and the positions are real numbers, the tent-weighted sum. -/
theorem result_at (hq : ∃ z : Fin 2 → Fin 2048 → Fin 16 → ℝ, ∀ n t h, zE (proj (rd3 x0) (rd2 x1) (rd1 x2)) (rd2 x7) n t h = (z n t h : EReal))
    (hk : ∃ z : Fin 2 → Fin 2048 → Fin 16 → ℝ, ∀ n t h, zE (proj (rd3 x0) (rd2 x3) (rd1 x4)) (rd2 x7) n t h = (z n t h : EReal))
    (hV : ∃ V : Fin 2 → Fin 2048 → Fin 2048 → ℝ, ∀ n t e, proj (rd3 x0) (rd2 x5) (rd1 x6) n t e = (V n t e : EReal))
    (n : Fin 2) (t : Fin 2048) (h : Fin 16) (d : Fin 128) :
    val_main_v122 (F := Ideal) x0 x1 x2 x3 x4 x5 x6 x7 x8 (ix3 n t (hcol h d))
      = outE (zE (proj (rd3 x0) (rd2 x1) (rd1 x2)) (rd2 x7)) (zE (proj (rd3 x0) (rd2 x3) (rd1 x4)) (rd2 x7))
          (proj (rd3 x0) (rd2 x5) (rd1 x6)) (rd1 x8) n t h d := by
  obtain ⟨zq, hq⟩ := hq
  obtain ⟨zk, hk⟩ := hk
  obtain ⟨V, hV⟩ := hV
  obtain ⟨ib, hib0, hib, -⟩ := ib_real (rd1 x8 h)
  have fq : zE (proj (rd3 x0) (rd2 x1) (rd1 x2)) (rd2 x7) = fun n t h => ((zq n t h : ℝ) : EReal) := by funext n t h; exact hq n t h
  have fk : zE (proj (rd3 x0) (rd2 x3) (rd1 x4)) (rd2 x7) = fun n t h => ((zk n t h : ℝ) : EReal) := by funext n t h; exact hk n t h
  have fV : proj (rd3 x0) (rd2 x5) (rd1 x6) = fun n t e => ((V n t e : ℝ) : EReal) := by funext n t e; exact hV n t e
  rw [fq, fk, fV, outE_coe zq zk V (rd1 x8) n t h d ib hib, v122_at, v116_at]
  let z : Fin 4096 → ℝ := fun q => if hq : q.val < 2048 then zk n ⟨q.val, hq⟩ h else zq n ⟨q.val - 2048, by omega⟩ h
  let v : Fin 4096 → ℝ := fun q => if hq : q.val < 2048 then V n ⟨q.val, hq⟩ (hcol h d) else 0
  have hz : ∀ q, row x0 x1 x2 x3 x4 x7 (hi (rowOf n h)) (lo (rowOf n h)) q = (z q : EReal) := by
    intro q
    rw [hi_rowOf, lo_rowOf]
    show val_main_v30 (F := Ideal) x0 x1 x2 x3 x4 x7 (ix3 n h q) = _
    rw [v30_at, fq, fk]
    unfold joined
    by_cases hq : q.val < 2048
    · rw [dif_pos hq, show z q = zk n ⟨q.val, hq⟩ h from dif_pos hq]
    · rw [dif_neg hq, show z q = zq n ⟨q.val - 2048, by omega⟩ h from dif_neg hq]
  have hv : ∀ q, val_main_v35 (F := Ideal) x0 x5 x6 (ix4 (hi (rowOf n h)) (lo (rowOf n h)) q d) = (v q : EReal) := by
    intro q
    rw [hi_rowOf, lo_rowOf, v35_at, fV]
    unfold joined
    by_cases hq : q.val < 2048
    · rw [dif_pos hq, show v q = V n ⟨q.val, hq⟩ (hcol h d) from dif_pos hq]
    · rw [dif_neg hq, show v q = 0 from dif_neg hq, EReal.coe_zero]
  rw [v112_real x0 x1 x2 x3 x4 x5 x6 x7 x8 (rowOf n h) _ d z v ib hz hv (by rw [lo_rowOf]; exact hib)]
  have hinv : ord x0 x1 x2 x3 x4 x7 (rowOf n h) (inverse (order (row x0 x1 x2 x3 x4 x7 n h)) ⟨2048 + t.val, by omega⟩)
      = ⟨2048 + t.val, by omega⟩ := by
    show order (row x0 x1 x2 x3 x4 x7 (hi (rowOf n h)) (lo (rowOf n h))) _ = _
    rw [hi_rowOf, lo_rowOf]
    exact inverse_spec _ (order_bij _).1 _
  rw [hinv]
  have hzt : z ⟨2048 + t.val, by omega⟩ = zq n t h := by
    show (if hq : 2048 + t.val < 2048 then _ else _) = _
    rw [dif_neg (by omega)]
    exact congrArg (fun s => zq n s h) (Fin.ext (by show 2048 + t.val - 2048 = t.val; omega))
  rw [hzt]
  have hsplit : ∑ j : Fin 4096, Cert.Tent.tent ib (zq n t h) (z j) * v j
      = ∑ s : Fin 2048, Cert.Tent.tent ib (zq n t h) (zk n s h) * V n s (hcol h d) := by
    refine (Fin.sum_univ_add (a := 2048) (b := 2048) fun j => Cert.Tent.tent ib (zq n t h) (z j) * v j).trans ?_
    have hr : ∀ s : Fin 2048, v (Fin.natAdd 2048 s) = 0 := fun s => by
      show (if hq : 2048 + s.val < 2048 then _ else _) = _
      rw [dif_neg (by omega)]
    have hl1 : ∀ s : Fin 2048, z (Fin.castAdd 2048 s) = zk n s h := fun s => dif_pos s.isLt
    have hl2 : ∀ s : Fin 2048, v (Fin.castAdd 2048 s) = V n s (hcol h d) := fun s => dif_pos s.isLt
    simp only [hr, hl1, hl2, mul_zero, Finset.sum_const_zero, add_zero]
  rw [hsplit, Ideal.div_coe (by norm_num), ← EReal.coe_mul]
  exact congrArg _ (by ring)

end

end Cert.RefOut
-- ==== Proof.Equation.lean ====
module

public import proofs.«01_k».proof.Defs
public import proofs.«01_k».proof.Proof.Finite
public import proofs.«01_k».proof.Proof.KHost
public import proofs.«01_k».proof.Proof.KRun
public import proofs.«01_k».proof.Proof.RefOut
public import proofs.«01_k».proof.Proof.Gen.ReferenceIdeal.Run
public import proofs.«01_k».proof.Proof.Gen.ReferenceIdeal.Read

@[expose] public section

/-! The equation: on finite arguments the kernel and the reference leave the same result array. -/

noncomputable section

namespace Cert.Equation

open Idealize.ShloMosaic hiding ix1 ix2 ix3 ix4
open Idealize.ShloMosaic.ValueIdx Idealize.ShloMosaic.TcCoe Idealize.SL.Sem
open Cert.KernelIdeal Cert.KernelIdeal.Gen Cert.Spec Cert.KAttn Cert.KHost

attribute [local instance] Cert.Pre_finite.Gen.facts

variable (m : (ℓ : Loc nD τ sig) → Buf (Elt Ideal) ℓ) (ρ : Dev nD → PrngReg) (c : Dev nD)

/-- A column of the result, by its head and its place in the head. -/
theorem hcol_split (e : Fin 2048) : hcol (chead e) (cdim e) = e := Fin.ext (by
  show e.val / 128 * 128 + e.val % 128 = e.val
  omega)

/-- On finite arguments the reference's result is the kernel's, entry by entry. -/
theorem results_eq (h : Cert.Pre_KernelIdeal_finite m) :
    Cert.ReferenceIdeal.Read.val_main_v122 (F := Ideal) (arg m c main_arg0) (arg m c main_arg1) (arg m c main_arg2) (arg m c main_arg3)
      (arg m c main_arg4) (arg m c main_arg5) (arg m c main_arg6) (arg m c main_arg7) (arg m c main_arg8)
    = W6 m ρ c (Proc.devRef .tc main_v13) := by
  obtain ⟨h0, h1, h2, h3, h4, h5, h6, h7⟩ := h c
  have r0 := Cert.Finite.real_of_all _ _ h0
  have r1 := Cert.Finite.real_of_all _ _ h1
  have r2 := Cert.Finite.real_of_all _ _ h2
  have r3 := Cert.Finite.real_of_all _ _ h3
  have r4 := Cert.Finite.real_of_all _ _ h4
  have r5 := Cert.Finite.real_of_all _ _ h5
  have r6 := Cert.Finite.real_of_all _ _ h6
  have r7 := Cert.Finite.real_of_all _ _ h7
  have hq := proj_real (rd3 (arg m c main_arg0)) (rd2 (arg m c main_arg1)) (rd1 (arg m c main_arg2)) (fun _ _ _ => r0 _) (fun _ _ => r1 _) (fun _ => r2 _)
  have hk := proj_real (rd3 (arg m c main_arg0)) (rd2 (arg m c main_arg3)) (rd1 (arg m c main_arg4)) (fun _ _ _ => r0 _) (fun _ _ => r3 _) (fun _ => r4 _)
  have hv := proj_real (rd3 (arg m c main_arg0)) (rd2 (arg m c main_arg5)) (rd1 (arg m c main_arg6)) (fun _ _ _ => r0 _) (fun _ _ => r5 _) (fun _ => r6 _)
  funext i
  obtain ⟨n, t, e, rfl⟩ : ∃ n t e, i = ix3 n t e := ⟨_, _, _, ValueIdx.eq_ix3 i⟩
  rw [← hcol_split e]
  exact (Cert.RefOut.result_at _ _ _ _ _ _ _ _ _ (zE_real _ (rd2 (arg m c main_arg7)) hq (fun _ _ => r7 _))
    (zE_real _ (rd2 (arg m c main_arg7)) hk (fun _ _ => r7 _)) hv n t (chead e) (cdim e)).trans (v13_at m ρ c n t (chead e) (cdim e)).symm

/-- Both programs run from finite equal arguments to the same result, their arguments unchanged. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hfin heq
  refine ⟨fun c => W6 m g c (Proc.devRef .tc main_v13), Cert.KRun.result m g,
    (θ_run _ _ _).mono (fun r h c => ⟨?_, (h c).2⟩) (Cert.ReferenceIdeal.Value.run (F := Ideal) m' g')⟩
  obtain ⟨e0, e1, e2, e3, e4, e5, e6, e7, e8⟩ := heq c
  refine ((h c).1.trans (Cert.ReferenceIdeal.Read.val_main_v122_eq (StableHlo.launchContents m' c))).trans ?_
  rw [show StableHlo.launchContents m' c (Proc.devRef .tc Cert.ReferenceIdeal.main_arg0) = arg m c main_arg0 from e0,
    show StableHlo.launchContents m' c (Proc.devRef .tc Cert.ReferenceIdeal.main_arg1) = arg m c main_arg1 from e1,
    show StableHlo.launchContents m' c (Proc.devRef .tc Cert.ReferenceIdeal.main_arg2) = arg m c main_arg2 from e2,
    show StableHlo.launchContents m' c (Proc.devRef .tc Cert.ReferenceIdeal.main_arg3) = arg m c main_arg3 from e3,
    show StableHlo.launchContents m' c (Proc.devRef .tc Cert.ReferenceIdeal.main_arg4) = arg m c main_arg4 from e4,
    show StableHlo.launchContents m' c (Proc.devRef .tc Cert.ReferenceIdeal.main_arg5) = arg m c main_arg5 from e5,
    show StableHlo.launchContents m' c (Proc.devRef .tc Cert.ReferenceIdeal.main_arg6) = arg m c main_arg6 from e6,
    show StableHlo.launchContents m' c (Proc.devRef .tc Cert.ReferenceIdeal.main_arg7) = arg m c main_arg7 from e7,
    show StableHlo.launchContents m' c (Proc.devRef .tc Cert.ReferenceIdeal.main_arg8) = arg m c main_arg8 from e8]
  exact results_eq m g c hfin

end Cert.Equation

end
-- ==== Proof.lean ====
/- The certificate: the frames of the three programs and the equation of the kernel and the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem

/-- The whole claim: every program runs to an end and leaves its arguments unchanged, the idealised kernel is the kernel's own
    text, and on finite arguments the idealised kernel and the idealised reference leave the same result. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    fun m g _ => Cert.ReferenceIdeal.quiescent m g,
    fun m g _ => Cert.ReferenceIdeal.quiescent m g,
    trivial,
    Cert.Equation.algebraic⟩

end Cert.Proof

end
